-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "eps_sq" .f32 0x179ABE15#32 ((1 / 1000000000000000000000000 : ℝ) : EReal)
  ∧ IdealRules.named_const.Statement Cert.KernelIdeal.κ "c3" .f32 0xBBC35A8B#32 (((-187293 / 10000000) * Real.pi⁻¹ : ℝ) : EReal)
  ∧ IdealRules.named_const.Statement Cert.KernelIdeal.κ "c2" .f32 0x3CC1A480#32 (((74261 / 1000000) * Real.pi⁻¹ : ℝ) : EReal)
  ∧ IdealRules.named_const.Statement Cert.KernelIdeal.κ "c1" .f32 0xBD8A46EF#32 (((-265143 / 1250000) * Real.pi⁻¹ : ℝ) : EReal)
  ∧ IdealRules.named_const.Statement Cert.KernelIdeal.κ "c0" .f32 0x3EFFFD2F#32 (((1963411 / 1250000) * Real.pi⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near_exact [hKernelIdeal : Cert.KernelIdeal.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v8))) = (fun _ => 1#1))

def Claim : Prop :=
  ∃ (hKernel : Cert.Kernel.Facts) (hKernelIdeal : Cert.KernelIdeal.Facts) (hReferenceIdeal : Cert.ReferenceIdeal.Facts) (hPost_near_exact : Cert.Post_near_exact.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_exact (hKernelIdeal := hKernelIdeal) (hPost_near_exact := hPost_near_exact)
-- ==== Post_near_exact.lean ====
abbrev S1x12x2048x64 : Shape := ⟨4, ![1, 12, 2048, 64]⟩
abbrev S1x2048 : Shape := ⟨2, ![1, 2048]⟩
abbrev S12x1x5x1 : Shape := ⟨4, ![12, 1, 5, 1]⟩
abbrev S12x2048x64 : Shape := ⟨3, ![12, 2048, 64]⟩
abbrev S1x1x2048x1 : Shape := ⟨4, ![1, 1, 2048, 1]⟩
abbrev S_ : Shape := ⟨0, ![]⟩
abbrev S1x12x2052x64 : Shape := ⟨4, ![1, 12, 2052, 64]⟩
abbrev S12x1x1x1 : Shape := ⟨4, ![12, 1, 1, 1]⟩
abbrev S12 : Shape := ⟨1, ![12]⟩
abbrev S1x12x1x1 : Shape := ⟨4, ![1, 12, 1, 1]⟩
abbrev S1x1x2048 : Shape := ⟨3, ![1, 1, 2048]⟩
abbrev S1x1x12x2048 : Shape := ⟨4, ![1, 1, 12, 2048]⟩
abbrev S1x12x2048 : Shape := ⟨3, ![1, 12, 2048]⟩
abbrev S12x2048 : Shape := ⟨2, ![12, 2048]⟩
abbrev S12x2048x1 : Shape := ⟨3, ![12, 2048, 1]⟩
abbrev S12x2048x2048 : Shape := ⟨3, ![12, 2048, 2048]⟩
abbrev S12x1x2048 : Shape := ⟨3, ![12, 1, 2048]⟩

class Facts : Prop where
  bcast_S1x2048_S1x1x2048x1_0_2 : S1x2048.BroadcastsInDim S1x1x2048x1 (![0, 2] : Fin 2 → Fin S1x1x2048x1.rank)
  bcast_S1x1x2048x1_S1x12x2048x64_0_1_2_3 : S1x1x2048x1.BroadcastsInDim S1x12x2048x64 (![0, 1, 2, 3] : Fin 4 → Fin S1x12x2048x64.rank)
  pads_S1x12x2048x64_S1x12x2052x64_000_000_220_000 : S1x12x2048x64.Pads (![0, 0, 2, 0] : Fin 4 → Nat) ![0, 0, 2, 0] ![0, 0, 0, 0] S1x12x2052x64
  h_S_ : 0 < S_.numel
  bcast_S_S1x12x2048x64 : S_.BroadcastsInDim S1x12x2048x64 (![] : Fin 0 → Fin S1x12x2048x64.rank)
  slices_S1x12x2052x64_S1x12x2048x64_0_0_0_0 : S1x12x2052x64.Slices ![0, 0, 0, 0] S1x12x2048x64
  slices_S12x1x5x1_S12x1x1x1_0_0_0_0 : S12x1x5x1.Slices ![0, 0, 0, 0] S12x1x1x1
  shapeCasts_S12x1x1x1_S12 : S12x1x1x1.ShapeCasts S12
  bcast_S12_S1x12x1x1_1 : S12.BroadcastsInDim S1x12x1x1 (![1] : Fin 1 → Fin S1x12x1x1.rank)
  bcast_S1x12x1x1_S1x12x2048x64_0_1_2_3 : S1x12x1x1.BroadcastsInDim S1x12x2048x64 (![0, 1, 2, 3] : Fin 4 → Fin S1x12x2048x64.rank)
  slices_S1x12x2052x64_S1x12x2048x64_0_0_1_0 : S1x12x2052x64.Slices ![0, 0, 1, 0] S1x12x2048x64
  slices_S12x1x5x1_S12x1x1x1_0_0_1_0 : S12x1x5x1.Slices ![0, 0, 1, 0] S12x1x1x1
  slices_S1x12x2052x64_S1x12x2048x64_0_0_2_0 : S1x12x2052x64.Slices ![0, 0, 2, 0] S1x12x2048x64
  slices_S12x1x5x1_S12x1x1x1_0_0_2_0 : S12x1x5x1.Slices ![0, 0, 2, 0] S12x1x1x1
  slices_S1x12x2052x64_S1x12x2048x64_0_0_3_0 : S1x12x2052x64.Slices ![0, 0, 3, 0] S1x12x2048x64
  slices_S12x1x5x1_S12x1x1x1_0_0_3_0 : S12x1x5x1.Slices ![0, 0, 3, 0] S12x1x1x1
  slices_S1x12x2052x64_S1x12x2048x64_0_0_4_0 : S1x12x2052x64.Slices ![0, 0, 4, 0] S1x12x2048x64
  slices_S12x1x5x1_S12x1x1x1_0_0_4_0 : S12x1x5x1.Slices ![0, 0, 4, 0] S12x1x1x1
  shapeCasts_S1x12x2048x64_S12x2048x64 : S1x12x2048x64.ShapeCasts S12x2048x64
  bcast_S1x2048_S1x1x2048_0_2 : S1x2048.BroadcastsInDim S1x1x2048 (![0, 2] : Fin 2 → Fin S1x1x2048.rank)
  bcast_S1x1x2048_S1x1x12x2048_0_1_3 : S1x1x2048.BroadcastsInDim S1x1x12x2048 (![0, 1, 3] : Fin 3 → Fin S1x1x12x2048.rank)
  shapeCasts_S1x1x12x2048_S1x12x2048 : S1x1x12x2048.ShapeCasts S1x12x2048
  shapeCasts_S1x12x2048_S12x2048 : S1x12x2048.ShapeCasts S12x2048
  reducesTo_S12x2048x64_S12x2048_d2 : S12x2048x64.ReducesTo [2] S12x2048
  bcast_S12x2048_S12x2048x1_0_1 : S12x2048.BroadcastsInDim S12x2048x1 (![0, 1] : Fin 2 → Fin S12x2048x1.rank)
  bcast_S_S12x2048x1 : S_.BroadcastsInDim S12x2048x1 (![] : Fin 0 → Fin S12x2048x1.rank)
  bcast_S12x2048x1_S12x2048x64_0_1_2 : S12x2048x1.BroadcastsInDim S12x2048x64 (![0, 1, 2] : Fin 3 → Fin S12x2048x64.rank)
  bcast_S_S12x2048x2048 : S_.BroadcastsInDim S12x2048x2048 (![] : Fin 0 → Fin S12x2048x2048.rank)
  bcast_S12x2048x1_S12x2048x2048_0_1_2 : S12x2048x1.BroadcastsInDim S12x2048x2048 (![0, 1, 2] : Fin 3 → Fin S12x2048x2048.rank)
  bcast_S12x2048_S12x1x2048_0_2 : S12x2048.BroadcastsInDim S12x1x2048 (![0, 2] : Fin 2 → Fin S12x1x2048.rank)
  bcast_S12x1x2048_S12x2048x2048_0_1_2 : S12x1x2048.BroadcastsInDim S12x2048x2048 (![0, 1, 2] : Fin 3 → Fin S12x2048x2048.rank)
  dot_S12x2048x64_S12x2048x64_S12x2048x2048_2_2_1_1_0_0_wf : DotDims.WF S12x2048x64 S12x2048x64 S12x2048x2048 [2] [2] [1] [1] [0] [0]
  dot_S12x2048x2048_S12x2048x64_S12x2048x64_2_1_1_2_0_0_wf : DotDims.WF S12x2048x2048 S12x2048x64 S12x2048x64 [2] [1] [1] [2] [0] [0]

variable [Facts]

def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def dot_S12x2048x2048_S12x2048x64_S12x2048x64_2_1_1_2_0_0 : DotDims S12x2048x2048 S12x2048x64 S12x2048x64 where
  lhsContracting := [2]
  rhsContracting := [1]
  lhsNonContracting := [1]
  rhsNonContracting := [2]
  lhsBatch := [0]
  rhsBatch := [0]
  wf := dot_S12x2048x2048_S12x2048x64_S12x2048x64_2_1_1_2_0_0_wf
def fn_pad {F : FTy → Type} [FloatOps F] (arg0 : FVec F S1x12x2048x64 .f32) (arg1 : IVec S_ 32) : FVec F S1x12x2052x64 .f32 :=
  let v0 : FVec F S_ .f32 := sitofp .f32 arg1
  let v1 : FVec F S1x12x2052x64 .f32 := (fun x v => pad S1x12x2052x64 ![0, 0, 2, 0] ![0, 0, 2, 0] ![0, 0, 0, 0] x v pads_S1x12x2048x64_S1x12x2052x64_000_000_220_000 h_S_) arg0 v0
  v1

def fn_norm {F : FTy → Type} [FloatOps F] (arg0 : FVec F S12x2048x64 .f32) : FVec F S12x2048x1 .f32 :=
  let v0 : FVec F S12x2048x64 .f32 := mulf arg0 arg0
  let cst : FVec F S_ .f32 := constant S_ .f32 0x00000000#32
  let v1 : FVec F S12x2048 .f32 := (fun x v => Host.reduceAdd x v reducesTo_S12x2048x64_S12x2048_d2 h_S_) v0 cst
  let v2 : FVec F S12x2048x1 .f32 := broadcastInDim S12x2048x1 ![0, 1] bcast_S12x2048_S12x2048x1_0_1 v1
  let v3 : FVec F S12x2048x1 .f32 := Host.sqrt v2
  v3

def fn_clip {F : FTy → Type} [FloatOps F] (arg0 : FVec F S12x2048x2048 .f32) (arg1 : FVec F S_ .f32) (arg2 : FVec F S_ .f32) : FVec F S12x2048x2048 .f32 :=
  let v0 : FVec F S_ .f32 := id arg1
  let v1 : FVec F S12x2048x2048 .f32 := broadcastInDim S12x2048x2048 ![] bcast_S_S12x2048x2048 v0
  let v2 : FVec F S12x2048x2048 .f32 := maximumf v1 arg0
  let v3 : FVec F S_ .f32 := id arg2
  let v4 : FVec F S12x2048x2048 .f32 := broadcastInDim S12x2048x2048 ![] bcast_S_S12x2048x2048 v3
  let v5 : FVec F S12x2048x2048 .f32 := minimumf v4 v2
  v5

def fn_part5 {F : FTy → Type} [FloatOps F] (main_arg5 : FVec F S12x2048x64 .f32) (main_v91 : FVec F S12x2048x64 .f32) (main_v97 : FVec F S12x2048x1 .f32) (main_v100 : FVec F S12x2048x64 .f32) (main_cst_16 : FVec F S_ .f32) : IVec S12x2048x64 1 :=
  let main_cst_17 : FVec F S_ .f32 := constant S_ .f32 0x447A0000#32
  let main_v101 : FVec F S_ .f32 := Host.divf main_cst_16 main_cst_17
  let main_v102 : FVec F S12x2048x1 .f32 := fn_norm (F := F) main_v91
  let main_v103 : FVec F S12x2048x1 .f32 := Host.divf main_v102 main_v97
  let main_v104 : FVec F S12x2048x1 .f32 := broadcastInDim S12x2048x1 ![] bcast_S_S12x2048x1 main_v101
  let main_v105 : FVec F S12x2048x1 .f32 := mulf main_v104 main_v103
  let main_v106 : FVec F S12x2048x64 .f32 := broadcastInDim S12x2048x64 ![0, 1, 2] bcast_S12x2048x1_S12x2048x64_0_1_2 main_v105
  let main_v107 : FVec F S12x2048x64 .f32 := addf main_v100 main_v106
  let main_v108 : IVec S12x2048x64 1 := cmpf .ole main_arg5 main_v107
  let main_v109 : FVec F S12x2048x64 .f32 := broadcastInDim S12x2048x64 ![0, 1, 2] bcast_S12x2048x1_S12x2048x64_0_1_2 main_v105
  let main_v110 : FVec F S12x2048x64 .f32 := addf main_arg5 main_v109
  let main_v111 : IVec S12x2048x64 1 := cmpf .ole main_v100 main_v110
  let main_v112 : IVec S12x2048x64 1 := andi main_v108 main_v111
  main_v112

def fn_part4 {F : FTy → Type} [FloatOps F] (main_arg5 : FVec F S12x2048x64 .f32) (main_v40 : FVec F S12x2048x64 .f32) (main_v44 : FVec F S12x2048 .f32) (main_v45 : FVec F S12x2048x64 .f32) (main_v74 : FVec F S12x2048x2048 .f32) (main_v81 : FVec F S12x2048x64 .f32) : IVec S12x2048x64 1 :=
  let main_v82 : FVec F S12x2048 .f32 := Host.absf main_v44
  let main_v83 : FVec F S12x2048x1 .f32 := broadcastInDim S12x2048x1 ![0, 1] bcast_S12x2048_S12x2048x1_0_1 main_v82
  let main_v84 : FVec F S12x2048x2048 .f32 := broadcastInDim S12x2048x2048 ![0, 1, 2] bcast_S12x2048x1_S12x2048x2048_0_1_2 main_v83
  let main_v85 : FVec F S12x2048x2048 .f32 := mulf main_v74 main_v84
  let main_v86 : FVec F S12x2048 .f32 := Host.absf main_v44
  let main_v87 : FVec F S12x1x2048 .f32 := broadcastInDim S12x1x2048 ![0, 2] bcast_S12x2048_S12x1x2048_0_2 main_v86
  let main_v88 : FVec F S12x2048x2048 .f32 := broadcastInDim S12x2048x2048 ![0, 1, 2] bcast_S12x1x2048_S12x2048x2048_0_1_2 main_v87
  let main_v89 : FVec F S12x2048x2048 .f32 := mulf main_v85 main_v88
  let main_v90 : FVec F S12x2048x64 .f32 := Host.absf main_v45
  let main_v91 : FVec F S12x2048x64 .f32 := (fun l r => Host.dotGeneral dot_S12x2048x2048_S12x2048x64_S12x2048x64_2_1_1_2_0_0 none l r) main_v89 main_v90
  let main_v92 : FVec F S12x2048x1 .f32 := fn_norm (F := F) main_v81
  let main_cst_12 : FVec F S_ .f32 := constant S_ .f32 0x3F800000#32
  let main_cst_13 : FVec F S_ .f32 := constant S_ .f32 0x49742400#32
  let main_v93 : FVec F S_ .f32 := Host.divf main_cst_12 main_cst_13
  let main_cst_14 : FVec F S_ .f32 := constant S_ .f32 0x3F800000#32
  let main_cst_15 : FVec F S_ .f32 := constant S_ .f32 0x49742400#32
  let main_v94 : FVec F S_ .f32 := Host.divf main_cst_14 main_cst_15
  let main_v95 : FVec F S_ .f32 := mulf main_v93 main_v94
  let main_v96 : FVec F S12x2048x1 .f32 := broadcastInDim S12x2048x1 ![] bcast_S_S12x2048x1 main_v95
  let main_v97 : FVec F S12x2048x1 .f32 := maximumf main_v92 main_v96
  let main_v98 : FVec F S12x2048x64 .f32 := broadcastInDim S12x2048x64 ![0, 1, 2] bcast_S12x2048x1_S12x2048x64_0_1_2 main_v97
  let main_v99 : FVec F S12x2048x64 .f32 := Host.divf main_v81 main_v98
  let main_v100 : FVec F S12x2048x64 .f32 := addf main_v99 main_v40
  let main_cst_16 : FVec F S_ .f32 := constant S_ .f32 0x3F800000#32
  fn_part5 (F := F) main_arg5 main_v91 main_v97 main_v100 main_cst_16

def fn_part3 {F : FTy → Type} [FloatOps F] (main_arg5 : FVec F S12x2048x64 .f32) (main_v40 : FVec F S12x2048x64 .f32) (main_v44 : FVec F S12x2048 .f32) (main_v45 : FVec F S12x2048x64 .f32) (main_v54 : FVec F S12x2048x64 .f32) (main_v55 : FVec F S12x2048x64 .f32) (main_v61 : FVec F S12x2048x1 .f32) : IVec S12x2048x64 1 :=
  let main_v62 : FVec F S12x2048x64 .f32 := broadcastInDim S12x2048x64 ![0, 1, 2] bcast_S12x2048x1_S12x2048x64_0_1_2 main_v61
  let main_v63 : FVec F S12x2048x64 .f32 := Host.divf main_v55 main_v62
  let main_v64 : FVec F S12x2048x2048 .f32 := (fun l r => Host.dotGeneral dot_S12x2048x64_S12x2048x64_S12x2048x2048_2_2_1_1_0_0 none l r) main_v54 main_v63
  let main_cst_8 : FVec F S_ .f32 := constant S_ .f32 0xBF7FFFEF#32
  let main_cst_9 : FVec F S_ .f32 := constant S_ .f32 0x3F7FFFEF#32
  let main_v65 : FVec F S12x2048x2048 .f32 := fn_clip (F := F) main_v64 main_cst_8 main_cst_9
  let main_v66 : FVec F S12x2048x2048 .f32 := Host.acos main_v65
  let main_cst_10 : FVec F S_ .f32 := constant S_ .f32 0xBF800000#32
  let main_v67 : FVec F S_ .f32 := Host.acos main_cst_10
  let main_v68 : FVec F S12x2048x2048 .f32 := broadcastInDim S12x2048x2048 ![] bcast_S_S12x2048x2048 main_v67
  let main_v69 : FVec F S12x2048x2048 .f32 := Host.divf main_v66 main_v68
  let main_cst_11 : FVec F S_ .f32 := constant S_ .f32 0x3F800000#32
  let main_v70 : FVec F S12x2048x2048 .f32 := broadcastInDim S12x2048x2048 ![] bcast_S_S12x2048x2048 main_cst_11
  let main_v71 : FVec F S12x2048x2048 .f32 := subf main_v70 main_v69
  let main_v72 : FVec F S12x2048x2048 .f32 := mulf main_v71 main_v71
  let main_v73 : FVec F S12x2048x2048 .f32 := mulf main_v72 main_v72
  let main_v74 : FVec F S12x2048x2048 .f32 := mulf main_v73 main_v73
  let main_v75 : FVec F S12x2048x1 .f32 := broadcastInDim S12x2048x1 ![0, 1] bcast_S12x2048_S12x2048x1_0_1 main_v44
  let main_v76 : FVec F S12x2048x2048 .f32 := broadcastInDim S12x2048x2048 ![0, 1, 2] bcast_S12x2048x1_S12x2048x2048_0_1_2 main_v75
  let main_v77 : FVec F S12x2048x2048 .f32 := mulf main_v74 main_v76
  let main_v78 : FVec F S12x1x2048 .f32 := broadcastInDim S12x1x2048 ![0, 2] bcast_S12x2048_S12x1x2048_0_2 main_v44
  let main_v79 : FVec F S12x2048x2048 .f32 := broadcastInDim S12x2048x2048 ![0, 1, 2] bcast_S12x1x2048_S12x2048x2048_0_1_2 main_v78
  let main_v80 : FVec F S12x2048x2048 .f32 := mulf main_v77 main_v79
  let main_v81 : FVec F S12x2048x64 .f32 := (fun l r => Host.dotGeneral dot_S12x2048x2048_S12x2048x64_S12x2048x64_2_1_1_2_0_0 none l r) main_v80 main_v45
  fn_part4 (F := F) main_arg5 main_v40 main_v44 main_v45 main_v74 main_v81

def fn_part2 {F : FTy → Type} [FloatOps F] (main_arg0 : FVec F S1x12x2048x64 .f32) (main_arg1 : FVec F S1x12x2048x64 .f32) (main_arg5 : FVec F S12x2048x64 .f32) (main_v40 : FVec F S12x2048x64 .f32) (main_v44 : FVec F S12x2048 .f32) (main_v45 : FVec F S12x2048x64 .f32) : IVec S12x2048x64 1 :=
  let main_v46 : FVec F S12x2048x64 .f32 := shapeCast S12x2048x64 main_arg0 shapeCasts_S1x12x2048x64_S12x2048x64
  let main_v47 : FVec F S12x2048x1 .f32 := fn_norm (F := F) main_v46
  let main_cst_0 : FVec F S_ .f32 := constant S_ .f32 0x3F800000#32
  let main_cst_1 : FVec F S_ .f32 := constant S_ .f32 0x49742400#32
  let main_v48 : FVec F S_ .f32 := Host.divf main_cst_0 main_cst_1
  let main_cst_2 : FVec F S_ .f32 := constant S_ .f32 0x3F800000#32
  let main_cst_3 : FVec F S_ .f32 := constant S_ .f32 0x49742400#32
  let main_v49 : FVec F S_ .f32 := Host.divf main_cst_2 main_cst_3
  let main_v50 : FVec F S_ .f32 := mulf main_v48 main_v49
  let main_v51 : FVec F S12x2048x1 .f32 := broadcastInDim S12x2048x1 ![] bcast_S_S12x2048x1 main_v50
  let main_v52 : FVec F S12x2048x1 .f32 := maximumf main_v47 main_v51
  let main_v53 : FVec F S12x2048x64 .f32 := broadcastInDim S12x2048x64 ![0, 1, 2] bcast_S12x2048x1_S12x2048x64_0_1_2 main_v52
  let main_v54 : FVec F S12x2048x64 .f32 := Host.divf main_v46 main_v53
  let main_v55 : FVec F S12x2048x64 .f32 := shapeCast S12x2048x64 main_arg1 shapeCasts_S1x12x2048x64_S12x2048x64
  let main_v56 : FVec F S12x2048x1 .f32 := fn_norm (F := F) main_v55
  let main_cst_4 : FVec F S_ .f32 := constant S_ .f32 0x3F800000#32
  let main_cst_5 : FVec F S_ .f32 := constant S_ .f32 0x49742400#32
  let main_v57 : FVec F S_ .f32 := Host.divf main_cst_4 main_cst_5
  let main_cst_6 : FVec F S_ .f32 := constant S_ .f32 0x3F800000#32
  let main_cst_7 : FVec F S_ .f32 := constant S_ .f32 0x49742400#32
  let main_v58 : FVec F S_ .f32 := Host.divf main_cst_6 main_cst_7
  let main_v59 : FVec F S_ .f32 := mulf main_v57 main_v58
  let main_v60 : FVec F S12x2048x1 .f32 := broadcastInDim S12x2048x1 ![] bcast_S_S12x2048x1 main_v59
  let main_v61 : FVec F S12x2048x1 .f32 := maximumf main_v56 main_v60
  fn_part3 (F := F) main_arg5 main_v40 main_v44 main_v45 main_v54 main_v55 main_v61

def fn_part1 {F : FTy → Type} [FloatOps F] (main_arg0 : FVec F S1x12x2048x64 .f32) (main_arg1 : FVec F S1x12x2048x64 .f32) (main_arg2 : FVec F S1x12x2048x64 .f32) (main_arg3 : FVec F S1x2048 .f32) (main_arg4 : FVec F S12x1x5x1 .f32) (main_arg5 : FVec F S12x2048x64 .f32) (main_v3 : FVec F S1x12x2052x64 .f32) (main_v18 : FVec F S1x12x2048x64 .f32) (main_v19 : FVec F S1x12x2048x64 .f32) (main_v21 : FVec F S12 .f32) : IVec S12x2048x64 1 :=
  let main_v22 : FVec F S1x12x1x1 .f32 := broadcastInDim S1x12x1x1 ![1] bcast_S12_S1x12x1x1_1 main_v21
  let main_v23 : FVec F S1x12x2048x64 .f32 := broadcastInDim S1x12x2048x64 ![0, 1, 2, 3] bcast_S1x12x1x1_S1x12x2048x64_0_1_2_3 main_v22
  let main_v24 : FVec F S1x12x2048x64 .f32 := mulf main_v19 main_v23
  let main_v25 : FVec F S1x12x2048x64 .f32 := addf main_v18 main_v24
  let main_v26 : FVec F S1x12x2048x64 .f32 := (extractStridedSlice S1x12x2048x64 ![0, 0, 3, 0] · slices_S1x12x2052x64_S1x12x2048x64_0_0_3_0) main_v3
  let main_v27 : FVec F S12x1x1x1 .f32 := (extractStridedSlice S12x1x1x1 ![0, 0, 3, 0] · slices_S12x1x5x1_S12x1x1x1_0_0_3_0) main_arg4
  let main_v28 : FVec F S12 .f32 := shapeCast S12 main_v27 shapeCasts_S12x1x1x1_S12
  let main_v29 : FVec F S1x12x1x1 .f32 := broadcastInDim S1x12x1x1 ![1] bcast_S12_S1x12x1x1_1 main_v28
  let main_v30 : FVec F S1x12x2048x64 .f32 := broadcastInDim S1x12x2048x64 ![0, 1, 2, 3] bcast_S1x12x1x1_S1x12x2048x64_0_1_2_3 main_v29
  let main_v31 : FVec F S1x12x2048x64 .f32 := mulf main_v26 main_v30
  let main_v32 : FVec F S1x12x2048x64 .f32 := addf main_v25 main_v31
  let main_v33 : FVec F S1x12x2048x64 .f32 := (extractStridedSlice S1x12x2048x64 ![0, 0, 4, 0] · slices_S1x12x2052x64_S1x12x2048x64_0_0_4_0) main_v3
  let main_v34 : FVec F S12x1x1x1 .f32 := (extractStridedSlice S12x1x1x1 ![0, 0, 4, 0] · slices_S12x1x5x1_S12x1x1x1_0_0_4_0) main_arg4
  let main_v35 : FVec F S12 .f32 := shapeCast S12 main_v34 shapeCasts_S12x1x1x1_S12
  let main_v36 : FVec F S1x12x1x1 .f32 := broadcastInDim S1x12x1x1 ![1] bcast_S12_S1x12x1x1_1 main_v35
  let main_v37 : FVec F S1x12x2048x64 .f32 := broadcastInDim S1x12x2048x64 ![0, 1, 2, 3] bcast_S1x12x1x1_S1x12x2048x64_0_1_2_3 main_v36
  let main_v38 : FVec F S1x12x2048x64 .f32 := mulf main_v33 main_v37
  let main_v39 : FVec F S1x12x2048x64 .f32 := addf main_v32 main_v38
  let main_v40 : FVec F S12x2048x64 .f32 := shapeCast S12x2048x64 main_v39 shapeCasts_S1x12x2048x64_S12x2048x64
  let main_v41 : FVec F S1x1x2048 .f32 := broadcastInDim S1x1x2048 ![0, 2] bcast_S1x2048_S1x1x2048_0_2 main_arg3
  let main_v42 : FVec F S1x1x12x2048 .f32 := broadcastInDim S1x1x12x2048 ![0, 1, 3] bcast_S1x1x2048_S1x1x12x2048_0_1_3 main_v41
  let main_v43 : FVec F S1x12x2048 .f32 := shapeCast S1x12x2048 main_v42 shapeCasts_S1x1x12x2048_S1x12x2048
  let main_v44 : FVec F S12x2048 .f32 := shapeCast S12x2048 main_v43 shapeCasts_S1x12x2048_S12x2048
  let main_v45 : FVec F S12x2048x64 .f32 := shapeCast S12x2048x64 main_arg2 shapeCasts_S1x12x2048x64_S12x2048x64
  fn_part2 (F := F) main_arg0 main_arg1 main_arg5 main_v40 main_v44 main_v45

def fn {F : FTy → Type} [FloatOps F] (main_arg0 : FVec F S1x12x2048x64 .f32) (main_arg1 : FVec F S1x12x2048x64 .f32) (main_arg2 : FVec F S1x12x2048x64 .f32) (main_arg3 : FVec F S1x2048 .f32) (main_arg4 : FVec F S12x1x5x1 .f32) (main_arg5 : FVec F S12x2048x64 .f32) : IVec S12x2048x64 1 :=
  let main_v0 : FVec F S1x1x2048x1 .f32 := broadcastInDim S1x1x2048x1 ![0, 2] bcast_S1x2048_S1x1x2048x1_0_2 main_arg3
  let main_v1 : FVec F S1x12x2048x64 .f32 := broadcastInDim S1x12x2048x64 ![0, 1, 2, 3] bcast_S1x1x2048x1_S1x12x2048x64_0_1_2_3 main_v0
  let main_v2 : FVec F S1x12x2048x64 .f32 := mulf main_arg2 main_v1
  let main_c : IVec S_ 32 := constantI S_ 32 0#32
  let main_v3 : FVec F S1x12x2052x64 .f32 := fn_pad (F := F) main_v2 main_c
  let main_cst : FVec F S_ .f32 := constant S_ .f32 0x00000000#32
  let main_v4 : FVec F S1x12x2048x64 .f32 := broadcastInDim S1x12x2048x64 ![] bcast_S_S1x12x2048x64 main_cst
  let main_v5 : FVec F S1x12x2048x64 .f32 := (extractStridedSlice S1x12x2048x64 ![0, 0, 0, 0] · slices_S1x12x2052x64_S1x12x2048x64_0_0_0_0) main_v3
  let main_v6 : FVec F S12x1x1x1 .f32 := (extractStridedSlice S12x1x1x1 ![0, 0, 0, 0] · slices_S12x1x5x1_S12x1x1x1_0_0_0_0) main_arg4
  let main_v7 : FVec F S12 .f32 := shapeCast S12 main_v6 shapeCasts_S12x1x1x1_S12
  let main_v8 : FVec F S1x12x1x1 .f32 := broadcastInDim S1x12x1x1 ![1] bcast_S12_S1x12x1x1_1 main_v7
  let main_v9 : FVec F S1x12x2048x64 .f32 := broadcastInDim S1x12x2048x64 ![0, 1, 2, 3] bcast_S1x12x1x1_S1x12x2048x64_0_1_2_3 main_v8
  let main_v10 : FVec F S1x12x2048x64 .f32 := mulf main_v5 main_v9
  let main_v11 : FVec F S1x12x2048x64 .f32 := addf main_v4 main_v10
  let main_v12 : FVec F S1x12x2048x64 .f32 := (extractStridedSlice S1x12x2048x64 ![0, 0, 1, 0] · slices_S1x12x2052x64_S1x12x2048x64_0_0_1_0) main_v3
  let main_v13 : FVec F S12x1x1x1 .f32 := (extractStridedSlice S12x1x1x1 ![0, 0, 1, 0] · slices_S12x1x5x1_S12x1x1x1_0_0_1_0) main_arg4
  let main_v14 : FVec F S12 .f32 := shapeCast S12 main_v13 shapeCasts_S12x1x1x1_S12
  let main_v15 : FVec F S1x12x1x1 .f32 := broadcastInDim S1x12x1x1 ![1] bcast_S12_S1x12x1x1_1 main_v14
  let main_v16 : FVec F S1x12x2048x64 .f32 := broadcastInDim S1x12x2048x64 ![0, 1, 2, 3] bcast_S1x12x1x1_S1x12x2048x64_0_1_2_3 main_v15
  let main_v17 : FVec F S1x12x2048x64 .f32 := mulf main_v12 main_v16
  let main_v18 : FVec F S1x12x2048x64 .f32 := addf main_v11 main_v17
  let main_v19 : FVec F S1x12x2048x64 .f32 := (extractStridedSlice S1x12x2048x64 ![0, 0, 2, 0] · slices_S1x12x2052x64_S1x12x2048x64_0_0_2_0) main_v3
  let main_v20 : FVec F S12x1x1x1 .f32 := (extractStridedSlice S12x1x1x1 ![0, 0, 2, 0] · slices_S12x1x5x1_S12x1x1x1_0_0_2_0) main_arg4
  let main_v21 : FVec F S12 .f32 := shapeCast S12 main_v20 shapeCasts_S12x1x1x1_S12
  fn_part1 (F := F) main_arg0 main_arg1 main_arg2 main_arg3 main_arg4 main_arg5 main_v3 main_v18 main_v19 main_v21
-- ==== Kernel.lean ====
abbrev S1x12x2048x64 : Shape := ⟨4, ![1, 12, 2048, 64]⟩
abbrev S1x2048 : Shape := ⟨2, ![1, 2048]⟩
abbrev S12x1x5x1 : Shape := ⟨4, ![12, 1, 5, 1]⟩
abbrev S12x2048x64 : Shape := ⟨3, ![12, 2048, 64]⟩
abbrev S1x1x2048x1 : Shape := ⟨4, ![1, 1, 2048, 1]⟩
abbrev S_ : Shape := ⟨0, ![]⟩
abbrev S12x2056x64 : Shape := ⟨3, ![12, 2056, 64]⟩
abbrev S12x1x5 : Shape := ⟨3, ![12, 1, 5]⟩
abbrev S1x2048x64 : Shape := ⟨3, ![1, 2048, 64]⟩
abbrev S1x2056x64 : Shape := ⟨3, ![1, 2056, 64]⟩
abbrev S1x1x5 : Shape := ⟨3, ![1, 1, 5]⟩
abbrev S2048x64 : Shape := ⟨2, ![2048, 64]⟩
abbrev S2048 : Shape := ⟨1, ![2048]⟩
abbrev S2048x1 : Shape := ⟨2, ![2048, 1]⟩
abbrev S5 : Shape := ⟨1, ![5]⟩
abbrev S256x64 : Shape := ⟨2, ![256, 64]⟩
abbrev S256x2048 : Shape := ⟨2, ![256, 2048]⟩
abbrev S1x256 : Shape := ⟨2, ![1, 256]⟩
abbrev S256 : Shape := ⟨1, ![256]⟩
abbrev S256x1 : Shape := ⟨2, ![256, 1]⟩
abbrev S1x256x64 : Shape := ⟨3, ![1, 256, 64]⟩
abbrev S1 : Shape := ⟨1, ![1]⟩

abbrev nBuf : Space → Nat
  | .hbm => 16
  | .vmem => 12
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x2048, .f32⟩
  | .hbm, ⟨4, _⟩ => ⟨S12x1x5x1, .f32⟩
  | .hbm, ⟨5, _⟩ => ⟨S12x2048x64, .f32⟩
  | .hbm, ⟨6, _⟩ => ⟨S12x2048x64, .f32⟩
  | .hbm, ⟨7, _⟩ => ⟨S1x1x2048x1, .f32⟩
  | .hbm, ⟨8, _⟩ => ⟨S1x12x2048x64, .f32⟩
  | .hbm, ⟨9, _⟩ => ⟨S1x12x2048x64, .f32⟩
  | .hbm, ⟨10, _⟩ => ⟨S12x2048x64, .f32⟩
  | .hbm, ⟨11, _⟩ => ⟨S_, .i32⟩
  | .hbm, ⟨12, _⟩ => ⟨S_, .f32⟩
  | .hbm, ⟨13, _⟩ => ⟨S12x2056x64, .f32⟩
  | .hbm, ⟨14, _⟩ => ⟨S12x1x5, .f32⟩
  | .hbm, ⟨15, _⟩ => ⟨S12x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2056x64, .f32⟩
  | .local _ .vmem, ⟨5, _⟩ => ⟨S1x2056x64, .f32⟩
  | .local _ .vmem, ⟨6, _⟩ => ⟨S1x2048, .f32⟩
  | .local _ .vmem, ⟨7, _⟩ => ⟨S1x2048, .f32⟩
  | .local _ .vmem, ⟨8, _⟩ => ⟨S1x1x5, .f32⟩
  | .local _ .vmem, ⟨9, _⟩ => ⟨S1x1x5, .f32⟩
  | .local _ .vmem, ⟨10, _⟩ => ⟨S1x2048x64, .f32⟩
  | .local _ .vmem, ⟨11, _⟩ => ⟨S1x2048x64, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2056x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "c0" => some (((1963411 / 1250000) * Real.pi⁻¹ : ℝ) : EReal)
  | "c1" => some (((-265143 / 1250000) * Real.pi⁻¹ : ℝ) : EReal)
  | "c2" => some (((74261 / 1000000) * Real.pi⁻¹ : ℝ) : EReal)
  | "c3" => some (((-187293 / 10000000) * Real.pi⁻¹ : ℝ) : EReal)
  | "eps_sq" => some ((1 / 1000000000000000000000000 : ℝ) : EReal)
  | _ => none
-- ==== ReferenceIdeal.lean ====
abbrev S1x12x2048x64 : Shape := ⟨4, ![1, 12, 2048, 64]⟩
abbrev S1x2048 : Shape := ⟨2, ![1, 2048]⟩
abbrev S12x1x5x1 : Shape := ⟨4, ![12, 1, 5, 1]⟩
abbrev S1x1x2048x1 : Shape := ⟨4, ![1, 1, 2048, 1]⟩
abbrev S_ : Shape := ⟨0, ![]⟩
abbrev S1x12x2052x64 : Shape := ⟨4, ![1, 12, 2052, 64]⟩
abbrev S12x1x1x1 : Shape := ⟨4, ![12, 1, 1, 1]⟩
abbrev S12 : Shape := ⟨1, ![12]⟩
abbrev S1x12x1x1 : Shape := ⟨4, ![1, 12, 1, 1]⟩
abbrev S12x2048x64 : Shape := ⟨3, ![12, 2048, 64]⟩
abbrev S1x1x2048 : Shape := ⟨3, ![1, 1, 2048]⟩
abbrev S1x1x12x2048 : Shape := ⟨4, ![1, 1, 12, 2048]⟩
abbrev S1x12x2048 : Shape := ⟨3, ![1, 12, 2048]⟩
abbrev S12x2048 : Shape := ⟨2, ![12, 2048]⟩
abbrev S12x2048x1 : Shape := ⟨3, ![12, 2048, 1]⟩
abbrev S12x2048x2048 : Shape := ⟨3, ![12, 2048, 2048]⟩
abbrev S12x1x2048 : Shape := ⟨3, ![12, 1, 2048]⟩

abbrev nBuf : Space → Nat
  | .hbm => 170
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x2048, .f32⟩
  | 4 => ⟨S12x1x5x1, .f32⟩
  | 5 => ⟨S1x1x2048x1, .f32⟩
  | 6 => ⟨S1x12x2048x64, .f32⟩
  | 7 => ⟨S1x12x2048x64, .f32⟩
  | 8 => ⟨S_, .i32⟩
  | 9 => ⟨S_, .f32⟩
  | 10 => ⟨S1x12x2052x64, .f32⟩
  | 11 => ⟨S_, .f32⟩
  | 12 => ⟨S1x12x2048x64, .f32⟩
  | 13 => ⟨S1x12x2048x64, .f32⟩
  | 14 => ⟨S12x1x1x1, .f32⟩
  | 15 => ⟨S12, .f32⟩
  | 16 => ⟨S1x12x1x1, .f32⟩
  | 17 => ⟨S1x12x2048x64, .f32⟩
  | 18 => ⟨S1x12x2048x64, .f32⟩
  | 19 => ⟨S1x12x2048x64, .f32⟩
  | 20 => ⟨S1x12x2048x64, .f32⟩
  | 21 => ⟨S12x1x1x1, .f32⟩
  | 22 => ⟨S12, .f32⟩
  | 23 => ⟨S1x12x1x1, .f32⟩
  | 24 => ⟨S1x12x2048x64, .f32⟩
  | 25 => ⟨S1x12x2048x64, .f32⟩
  | 26 => ⟨S1x12x2048x64, .f32⟩
  | 27 => ⟨S1x12x2048x64, .f32⟩
  | 28 => ⟨S12x1x1x1, .f32⟩
  | 29 => ⟨S12, .f32⟩
  | 30 => ⟨S1x12x1x1, .f32⟩
  | 31 => ⟨S1x12x2048x64, .f32⟩
  | 32 => ⟨S1x12x2048x64, .f32⟩
  | 33 => ⟨S1x12x2048x64, .f32⟩
  | 34 => ⟨S1x12x2048x64, .f32⟩
  | 35 => ⟨S12x1x1x1, .f32⟩
  | 36 => ⟨S12, .f32⟩
  | 37 => ⟨S1x12x1x1, .f32⟩
  | 38 => ⟨S1x12x2048x64, .f32⟩
  | 39 => ⟨S1x12x2048x64, .f32⟩
  | 40 => ⟨S1x12x2048x64, .f32⟩
  | 41 => ⟨S1x12x2048x64, .f32⟩
  | 42 => ⟨S12x1x1x1, .f32⟩
  | 43 => ⟨S12, .f32⟩
  | 44 => ⟨S1x12x1x1, .f32⟩
  | 45 => ⟨S1x12x2048x64, .f32⟩
  | 46 => ⟨S1x12x2048x64, .f32⟩
  | 47 => ⟨S1x12x2048x64, .f32⟩
  | 48 => ⟨S12x2048x64, .f32⟩
  | 49 => ⟨S12x2048x64, .f32⟩
  | 50 => ⟨S12x2048x64, .f32⟩
  | 51 => ⟨S1x1x2048, .f32⟩
  | 52 => ⟨S1x1x12x2048, .f32⟩
  | 53 => ⟨S1x12x2048, .f32⟩
  | 54 => ⟨S12x2048, .f32⟩
  | 55 => ⟨S12x2048x64, .f32⟩
  | 56 => ⟨S_, .f32⟩
  | 57 => ⟨S12x2048, .f32⟩
  | 58 => ⟨S12x2048x1, .f32⟩
  | 59 => ⟨S12x2048x1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S12x2048x1, .f32⟩
  | 68 => ⟨S12x2048x1, .f32⟩
  | 69 => ⟨S12x2048x64, .f32⟩
  | 70 => ⟨S12x2048x64, .f32⟩
  | 71 => ⟨S12x2048x64, .f32⟩
  | 72 => ⟨S_, .f32⟩
  | 73 => ⟨S12x2048, .f32⟩
  | 74 => ⟨S12x2048x1, .f32⟩
  | 75 => ⟨S12x2048x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S12x2048x1, .f32⟩
  | 84 => ⟨S12x2048x1, .f32⟩
  | 85 => ⟨S12x2048x64, .f32⟩
  | 86 => ⟨S12x2048x64, .f32⟩
  | 87 => ⟨S12x2048x2048, .f32⟩
  | 88 => ⟨S_, .f32⟩
  | 89 => ⟨S_, .f32⟩
  | 90 => ⟨S_, .f32⟩
  | 91 => ⟨S12x2048x2048, .f32⟩
  | 92 => ⟨S12x2048x2048, .f32⟩
  | 93 => ⟨S_, .f32⟩
  | 94 => ⟨S12x2048x2048, .f32⟩
  | 95 => ⟨S12x2048x2048, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S12x2048x2048, .f32⟩
  | 109 => ⟨S_, .f32⟩
  | 110 => ⟨S12x2048x2048, .f32⟩
  | 111 => ⟨S12x2048x2048, .f32⟩
  | 112 => ⟨S12x2048x2048, .f32⟩
  | 113 => ⟨S12x2048x2048, .f32⟩
  | 114 => ⟨S12x2048x2048, .f32⟩
  | 115 => ⟨S12x2048x2048, .f32⟩
  | 116 => ⟨S12x2048x2048, .f32⟩
  | 117 => ⟨S12x2048x2048, .f32⟩
  | 118 => ⟨S12x2048x2048, .f32⟩
  | 119 => ⟨S12x2048x2048, .f32⟩
  | 120 => ⟨S12x2048x2048, .f32⟩
  | 121 => ⟨S12x2048x2048, .f32⟩
  | 122 => ⟨S12x2048x2048, .f32⟩
  | 123 => ⟨S12x2048x2048, .f32⟩
  | 124 => ⟨S12x2048x2048, .f32⟩
  | 125 => ⟨S12x2048x2048, .f32⟩
  | 126 => ⟨S12x2048x2048, .f32⟩
  | 127 => ⟨S_, .f32⟩
  | _ => ⟨S1x12x2048x64, .f32⟩

abbrev hbmTy0_1 (i : Nat) : BufTy := match i % 128 with
  | 0 => ⟨S12x2048x2048, .f32⟩
  | 1 => ⟨S12x2048x2048, .i1⟩
  | 2 => ⟨S_, .f32⟩
  | 3 => ⟨S_, .f32⟩
  | 4 => ⟨S12x2048x2048, .f32⟩
  | 5 => ⟨S12x2048x2048, .f32⟩
  | 6 => ⟨S12x2048x2048, .f32⟩
  | 7 => ⟨S_, .f32⟩
  | 8 => ⟨S_, .f32⟩
  | 9 => ⟨S12x2048x2048, .f32⟩
  | 10 => ⟨S12x2048x2048, .f32⟩
  | 11 => ⟨S_, .f32⟩
  | 12 => ⟨S12x2048x2048, .f32⟩
  | 13 => ⟨S12x2048x2048, .f32⟩
  | 14 => ⟨S12x2048x2048, .f32⟩
  | 15 => ⟨S12x2048x2048, .f32⟩
  | 16 => ⟨S12x2048x2048, .f32⟩
  | 17 => ⟨S12x2048x1, .f32⟩
  | 18 => ⟨S12x2048x2048, .f32⟩
  | 19 => ⟨S12x2048x2048, .f32⟩
  | 20 => ⟨S12x1x2048, .f32⟩
  | 21 => ⟨S12x2048x2048, .f32⟩
  | 22 => ⟨S12x2048x2048, .f32⟩
  | 23 => ⟨S12x2048x64, .f32⟩
  | 24 => ⟨S12x2048x64, .f32⟩
  | 25 => ⟨S_, .f32⟩
  | 26 => ⟨S12x2048, .f32⟩
  | 27 => ⟨S12x2048x1, .f32⟩
  | 28 => ⟨S12x2048x1, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S12x2048x1, .f32⟩
  | 37 => ⟨S12x2048x1, .f32⟩
  | 38 => ⟨S12x2048x64, .f32⟩
  | 39 => ⟨S12x2048x64, .f32⟩
  | 40 => ⟨S12x2048x64, .f32⟩
  | 41 => ⟨S12x2048x64, .f32⟩
  | _ => ⟨S1x12x2048x64, .f32⟩

abbrev hbmTy (i : Nat) : BufTy := match i / 128 with
  | 0 => hbmTy0_0 i
  | 1 => hbmTy0_1 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v47 : Ref sig .tc := ⟨.hbm, 59, rfl⟩
abbrev main_cst_0 : Ref sig .tc := ⟨.hbm, 60, rfl⟩
abbrev main_cst_1 : Ref sig .tc := ⟨.hbm, 61, rfl⟩
abbrev main_v48 : Ref sig .tc := ⟨.hbm, 62, rfl⟩
abbrev main_cst_2 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v55 : Ref sig .tc := ⟨.hbm, 75, rfl⟩
abbrev main_cst_4 : Ref sig .tc := ⟨.hbm, 76, rfl⟩
abbrev main_cst_5 : Ref sig .tc := ⟨.hbm, 77, rfl⟩
abbrev main_v56 : Ref sig .tc := ⟨.hbm, 78, rfl⟩
abbrev main_cst_6 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_cst_9 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v64 : Ref sig .tc := ⟨.hbm, 95, rfl⟩
abbrev main_cst_10 : Ref sig .tc := ⟨.hbm, 96, rfl⟩
abbrev main_cst_11 : Ref sig .tc := ⟨.hbm, 97, rfl⟩
abbrev main_v65 : Ref sig .tc := ⟨.hbm, 98, rfl⟩
abbrev main_cst_12 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_cst_15 : Ref sig .tc := ⟨.hbm, 103, rfl⟩
abbrev main_v67 : Ref sig .tc := ⟨.hbm, 104, rfl⟩
abbrev main_cst_16 : Ref sig .tc := ⟨.hbm, 105, rfl⟩
abbrev main_cst_17 : Ref sig .tc := ⟨.hbm, 106, rfl⟩
abbrev main_v68 : Ref sig .tc := ⟨.hbm, 107, rfl⟩
abbrev main_v69 : Ref sig .tc := ⟨.hbm, 108, rfl⟩
abbrev main_cst_18 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call5_v0 : Ref sig .tc := ⟨.hbm, 152, rfl⟩
abbrev main_call5_cst : Ref sig .tc := ⟨.hbm, 153, rfl⟩
abbrev main_call5_v1 : Ref sig .tc := ⟨.hbm, 154, rfl⟩
abbrev main_call5_v2 : Ref sig .tc := ⟨.hbm, 155, rfl⟩
abbrev main_v108 : Ref sig .tc := ⟨.hbm, 156, rfl⟩
abbrev main_cst_23 : Ref sig .tc := ⟨.hbm, 157, rfl⟩
abbrev main_cst_24 : Ref sig .tc := ⟨.hbm, 158, rfl⟩
abbrev main_v109 : Ref sig .tc := ⟨.hbm, 159, rfl⟩
abbrev main_cst_25 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩

abbrev nD : Nat := 1
abbrev τ : Topo := Topo.v7x

variable {F : FTy → Type} [FloatOps F]
-- ==== Proof.Formula.lean ====
/- The mathematics of one query row, over extended reals: the two ways of normalising a row, the two ways of writing the
   collision probability, and the two places the mask factors can stand.  No program is mentioned here. -/
module

public import Idealize.ShloMosaic.PureOps.Ideal

@[expose] public section

noncomputable section

namespace Cert.Formula

open Idealize.ShloMosaic

/-! ## Normalising a row -/

/-- A row divided by its length, the length taken as at least `10^-12`. -/
def unit {n : ℕ} (f : Fin n → EReal) (d : Fin n) : EReal :=
  Ideal.div (f d) (max (Ideal.sqrt (∑ k, f k * f k)) ((1 / 1000000000000 : ℝ) : EReal))

/-- A row times the reciprocal root of its squared length, the squared length taken as at least `10^-24`. -/
def unitFast {n : ℕ} (f : Fin n → EReal) (d : Fin n) : EReal :=
  f d * Ideal.rsqrt (max (∑ k, f k * f k) ((1 / 1000000000000000000000000 : ℝ) : EReal))

/-- A square is not negative. -/
theorem sq_nonneg (x : EReal) : 0 ≤ x * x := by
  induction x with
  | bot => simp
  | top => simp
  | coe r => rw [← EReal.coe_mul]; exact_mod_cast mul_self_nonneg r

/-- Of a squared length that is not negative: the product with the bounded reciprocal root is the quotient by the
    bounded root. -/
theorem mul_rsqrt_eq_div_sqrt (x s : EReal) (hs : 0 ≤ s) :
    x * Ideal.rsqrt (max s ((1 / 1000000000000000000000000 : ℝ) : EReal))
      = Ideal.div x (max (Ideal.sqrt s) ((1 / 1000000000000 : ℝ) : EReal)) := by
  induction s with
  | bot => simp at hs
  | top => simp [Ideal.div]
  | coe r =>
    have hr : (0 : ℝ) ≤ r := by exact_mod_cast hs
    have hroot : Real.sqrt (max r (1 / 1000000000000000000000000)) = max (Real.sqrt r) (1 / 1000000000000) := by
      rw [(show Monotone Real.sqrt from fun _ _ h => Real.sqrt_le_sqrt h).map_max]
      congr 1
      rw [show (1 / 1000000000000000000000000 : ℝ) = (1 / 1000000000000) ^ 2 by norm_num, Real.sqrt_sq (by norm_num)]
    have hpos : (0 : ℝ) < max r (1 / 1000000000000000000000000) := lt_max_of_lt_right (by norm_num)
    have hpos' : (0 : ℝ) < max (Real.sqrt r) (1 / 1000000000000) := lt_max_of_lt_right (by norm_num)
    rw [← EReal.coe_strictMono.monotone.map_max, Ideal.rsqrt_coe, if_neg hpos.not_gt, if_neg hpos.ne', Ideal.sqrt_coe,
      if_neg hr.not_gt, ← EReal.coe_strictMono.monotone.map_max, Ideal.div_coe hpos'.ne', hroot]
    simp only [one_div]

/-- The two ways of normalising a row agree, at every row of extended reals. -/
theorem unitFast_eq {n : ℕ} (f : Fin n → EReal) : unitFast f = unit f :=
  funext fun d => mul_rsqrt_eq_div_sqrt _ _ (Finset.sum_nonneg fun k _ => sq_nonneg (f k))

/-! ## The collision probability of two unit rows -/

/-- A number clipped to `[-b, b]`, `b` the number `1 - 17 / 2^24`. -/
def clip (x : EReal) : EReal :=
  min ((16777199 / 16777216 : ℝ) : EReal) (max ((-(16777199 / 16777216) : ℝ) : EReal) x)

/-- The square root of `1 - a` times the cubic of `a` that Abramowitz and Stegun's formula 4.4.45 multiplies it by. -/
def arccosNonneg (a : EReal) : EReal :=
  Ideal.sqrt (1 - a) * (((15707288 / 10000000 : ℝ) : EReal) - ((2121144 / 10000000 : ℝ) : EReal) * a
    + ((742610 / 10000000 : ℝ) : EReal) * (a * a) - ((187293 / 10000000 : ℝ) : EReal) * (a * a * a))

/-- The arc cosine by that formula: of a negative number, π less the arc cosine of its negation. -/
def arccos (x : EReal) : EReal :=
  if 0 ≤ x then arccosNonneg (max x (-x)) else ((Real.pi : ℝ) : EReal) - arccosNonneg (max x (-x))

/-- The probability that two rows of inner product `x` collide in one hash: one less the angle over π. -/
def collision (x : EReal) : EReal := 1 - Ideal.div (arccos (clip x)) ((Real.pi : ℝ) : EReal)

/-- The angle over π of the clipped magnitude: the coefficients carry the factor `1 / π`, the cubic is nested, and the
    root of `1 - a` is written as `1 - a` times its reciprocal root. -/
def angleFast (a : EReal) : EReal :=
  (1 - a) * Ideal.rsqrt (1 - a) *
    ((((((-187293 / 10000000) * Real.pi⁻¹ : ℝ) : EReal) * a + (((74261 / 1000000) * Real.pi⁻¹ : ℝ) : EReal)) * a
      + (((-265143 / 1250000) * Real.pi⁻¹ : ℝ) : EReal)) * a + (((1963411 / 1250000) * Real.pi⁻¹ : ℝ) : EReal))

/-- The collision probability without a division: one less the angle over π, or the angle over π of a negative number. -/
def collisionFast (x : EReal) : EReal :=
  if 0 ≤ x then 1 - angleFast (min (max x (-x)) ((16777199 / 16777216 : ℝ) : EReal))
  else angleFast (min (max x (-x)) ((16777199 / 16777216 : ℝ) : EReal))

/-- A clipped number is a real number of magnitude below one, has the sign of the number, and its magnitude is the
    clipped magnitude. -/
theorem exists_clip (x : EReal) : ∃ r : ℝ, clip x = (r : EReal) ∧ |r| < 1 ∧ (0 ≤ x ↔ 0 ≤ r)
    ∧ min (max x (-x)) ((16777199 / 16777216 : ℝ) : EReal) = ((|r| : ℝ) : EReal) := by
  have hb : |(16777199 / 16777216 : ℝ)| = 16777199 / 16777216 := abs_of_pos (by norm_num)
  induction x with
  | bot =>
    refine ⟨-(16777199 / 16777216), ?_, ?_, ?_, ?_⟩
    · rw [clip, max_eq_left bot_le, min_eq_right]; exact_mod_cast (by norm_num)
    · rw [abs_neg, hb]; norm_num
    · simp
    · rw [abs_neg, hb]; simp
  | top =>
    refine ⟨16777199 / 16777216, ?_, ?_, ?_, ?_⟩
    · rw [clip, max_eq_right le_top, min_eq_left le_top]
    · rw [hb]; norm_num
    · simp; norm_num
    · rw [hb]; simp
  | coe r =>
    have hmin : ∀ p q : ℝ, min (p : EReal) (q : EReal) = ((min p q : ℝ) : EReal) := fun p q =>
      (EReal.coe_strictMono.monotone.map_min).symm
    have hmax : ∀ p q : ℝ, max (p : EReal) (q : EReal) = ((max p q : ℝ) : EReal) := fun p q =>
      (EReal.coe_strictMono.monotone.map_max).symm
    refine ⟨min (16777199 / 16777216) (max (-(16777199 / 16777216)) r), ?_, ?_, ?_, ?_⟩
    · rw [clip, hmax, hmin]
    · rw [abs_lt]
      constructor
      · exact lt_min (by norm_num) (lt_max_of_lt_left (by norm_num))
      · exact min_lt_of_left_lt (by norm_num)
    · rw [EReal.coe_nonneg]
      constructor
      · intro h; exact le_min (by norm_num) (le_max_of_le_right h)
      · intro h
        rcases le_max_iff.mp (le_min_iff.mp h).2 with h' | h'
        · norm_num at h'
        · exact h'
    · rw [← EReal.coe_neg, hmax, hmin, EReal.coe_eq_coe_iff, max_comm r, max_comm]
      rcases le_total r (-(16777199 / 16777216)) with h | h
      · rw [max_eq_left h, min_eq_right (by norm_num : (-(16777199 / 16777216) : ℝ) ≤ _), abs_neg, hb, min_eq_right]
        exact le_max_of_le_right (by linarith)
      · rw [max_eq_right h]
        rcases le_total r (16777199 / 16777216) with h' | h'
        · rw [min_eq_right h', ← abs_eq_max_neg, min_eq_left (abs_le.mpr ⟨h, h'⟩)]
        · rw [min_eq_left h', hb, min_eq_right (le_max_of_le_left h')]

/-- At a real magnitude below one the formula is the real formula. -/
theorem arccosNonneg_coe (a : ℝ) (h : a < 1) : arccosNonneg (a : EReal)
    = ((Real.sqrt (1 - a) * (15707288 / 10000000 - 2121144 / 10000000 * a + 742610 / 10000000 * (a * a)
        - 187293 / 10000000 * (a * a * a)) : ℝ) : EReal) := by
  rw [arccosNonneg, ← EReal.coe_one, ← EReal.coe_sub, Ideal.sqrt_coe, if_neg (by linarith)]
  norm_cast

/-- At a real magnitude below one the division-free form is the real formula over π. -/
theorem angleFast_coe (a : ℝ) (h : a < 1) : angleFast (a : EReal)
    = ((Real.sqrt (1 - a) * (15707288 / 10000000 - 2121144 / 10000000 * a + 742610 / 10000000 * (a * a)
        - 187293 / 10000000 * (a * a * a)) * (1 / Real.pi) : ℝ) : EReal) := by
  have hy : 0 < 1 - a := by linarith
  have hroot : (1 - a) * (Real.sqrt (1 - a))⁻¹ = Real.sqrt (1 - a) := by
    rw [← div_eq_mul_inv, Real.div_sqrt]
  rw [angleFast, ← EReal.coe_one, ← EReal.coe_sub, Ideal.rsqrt_coe, if_neg hy.not_gt, if_neg hy.ne']
  simp only [← EReal.coe_mul, ← EReal.coe_add]
  rw [hroot, EReal.coe_eq_coe_iff]
  ring

/-- The two ways of writing the collision probability agree, at every extended real. -/
theorem collisionFast_eq (x : EReal) : collisionFast x = collision x := by
  obtain ⟨r, hc, hr, hx, ha⟩ := exists_clip x
  have habs : max (r : EReal) (-(r : EReal)) = ((|r| : ℝ) : EReal) := by
    rw [← EReal.coe_neg, ← EReal.coe_strictMono.monotone.map_max, abs_eq_max_neg]
  have hpi : Real.pi ≠ 0 := Real.pi_ne_zero
  rw [collisionFast, collision, arccos, hc, ha, habs, angleFast_coe _ hr, arccosNonneg_coe _ hr, Ideal.div_coe hpi]
  by_cases h : 0 ≤ r
  · rw [if_pos (hx.mpr h), if_pos (EReal.coe_nonneg.mpr h), ← EReal.coe_mul]
  · rw [if_neg (mt hx.mp h), if_neg (mt EReal.coe_nonneg.mp h), ← EReal.coe_sub, ← EReal.coe_mul, ← EReal.coe_one,
      ← EReal.coe_sub, EReal.coe_eq_coe_iff]
    field_simp
    ring

/-! ## The attention sum of one row -/

/-- The eighth power, by three squarings. -/
def pow8 (x : EReal) : EReal := x * x * (x * x) * (x * x * (x * x))

/-- The attention sum: over the key positions, the eighth power of the collision probability, times the mask of the
    query and of the key position, times the value row. -/
def attend (q : Fin 64 → EReal) (k v : Fin 2048 → Fin 64 → EReal) (ms : EReal) (mt : Fin 2048 → EReal) (d : Fin 64) : EReal :=
  ∑ t, pow8 (collision (∑ e, unit q e * unit (k t) e)) * ms * mt t * v t d

/-- The same over value rows `vm` that carry the key positions' masks already, with the query's mask after the sum, and
    from the faster forms. -/
def attendFast (q : Fin 64 → EReal) (k vm : Fin 2048 → Fin 64 → EReal) (ms : EReal) (d : Fin 64) : EReal :=
  (∑ t, pow8 (collisionFast (∑ e, unitFast q e * unitFast (k t) e)) * vm t d) * ms

/-! ### A factor taken out of the sum

A factor passes through a sum of extended reals unless it is infinite, or negative beside both infinities.  Where it does
not, the two rows are not equal, but both are made the zero row by the normalisation. -/

/-- One of the two infinities. -/
def Infinite (x : EReal) : Prop := x = ⊤ ∨ x = ⊥

/-- A sum with an infinite term is infinite. -/
theorem sum_infinite {ι : Type} [Fintype ι] (f : ι → EReal) (t : ι) (h : Infinite (f t)) : Infinite (∑ t, f t) := by
  classical
  rw [← Finset.add_sum_erase _ _ (Finset.mem_univ t)]
  generalize ∑ i ∈ Finset.univ.erase t, f i = y
  rcases h with h | h <;> rw [h]
  · induction y with
    | bot => exact Or.inr rfl
    | top => exact Or.inl rfl
    | coe r => exact Or.inl rfl
  · exact Or.inr (EReal.bot_add y)

/-- A row with an infinite element is made the zero row. -/
theorem unit_of_infinite {n : ℕ} (f : Fin n → EReal) (k : Fin n) (h : Infinite (f k)) : unit f = fun _ => 0 := by
  funext d
  have htop : ∑ j, f j * f j = ⊤ := by
    refine top_le_iff.mp (le_trans ?_ (Finset.single_le_sum (fun j _ => sq_nonneg (f j)) (Finset.mem_univ k)))
    rcases h with h | h <;> simp [h]
  rw [unit, htop]
  show Ideal.div (f d) (max ⊤ _) = 0
  rw [max_eq_left le_top]
  simp [Ideal.div]

/-- A row whose elements are zero or infinite is made the zero row. -/
theorem unit_of_zero_or_infinite {n : ℕ} (f : Fin n → EReal) (h : ∀ d, f d = 0 ∨ Infinite (f d)) : unit f = fun _ => 0 := by
  by_cases hk : ∃ k, Infinite (f k)
  · exact unit_of_infinite f hk.choose hk.choose_spec
  · funext d
    have hpos : (0 : EReal) < max (Ideal.sqrt (∑ k, f k * f k)) ((1 / 1000000000000 : ℝ) : EReal) :=
      lt_max_of_lt_right (by exact_mod_cast (by norm_num : (0 : ℝ) < 1 / 1000000000000))
    rw [unit, (h d).resolve_right fun hd => hk ⟨d, hd⟩, Ideal.div, if_neg hpos.ne', zero_mul]

/-- A product with an infinity is zero or infinite. -/
theorem mul_infinite (x c : EReal) (hc : Infinite c) : x * c = 0 ∨ Infinite (x * c) := by
  rcases lt_trichotomy x 0 with hx | hx | hx <;> rcases hc with rfl | rfl
  · exact Or.inr (Or.inr (EReal.mul_top_of_neg hx))
  · exact Or.inr (Or.inl (EReal.mul_bot_of_neg hx))
  · exact Or.inl (by rw [hx, zero_mul])
  · exact Or.inl (by rw [hx, zero_mul])
  · exact Or.inr (Or.inl (EReal.mul_top_of_pos hx))
  · exact Or.inr (Or.inr (EReal.mul_bot_of_pos hx))

/-- A sum of products with an infinity is zero or infinite. -/
theorem sum_mul_infinite {ι : Type} [Fintype ι] (f : ι → EReal) (c : EReal) (hc : Infinite c) :
    ∑ t, f t * c = 0 ∨ Infinite (∑ t, f t * c) := by
  by_cases h : ∃ t, Infinite (f t * c)
  · exact Or.inr (sum_infinite _ h.choose h.choose_spec)
  · exact Or.inl (Finset.sum_eq_zero fun t _ => (mul_infinite (f t) c hc).resolve_right fun ht => h ⟨t, ht⟩)

/-- An infinity times a real number other than zero is infinite. -/
theorem infinite_mul_coe (x : EReal) (c : ℝ) (hx : Infinite x) (hc : c ≠ 0) : Infinite (x * (c : EReal)) := by
  rcases hc.lt_or_gt with h | h <;> rcases hx with rfl | rfl
  · exact Or.inr (EReal.top_mul_coe_of_neg h)
  · exact Or.inl (EReal.bot_mul_coe_of_neg h)
  · exact Or.inl (EReal.top_mul_coe_of_pos h)
  · exact Or.inr (EReal.bot_mul_coe_of_pos h)

/-- A real factor passes through a sum of real numbers. -/
theorem sum_mul_coe {ι : Type} [Fintype ι] (f : ι → ℝ) (c : ℝ) :
    (∑ t, (f t : EReal)) * (c : EReal) = ∑ t, (f t : EReal) * (c : EReal) := by
  have hsum : ∀ g : ι → ℝ, ∑ t, (g t : EReal) = ((∑ t, g t : ℝ) : EReal) := fun g =>
    (map_sum (⟨⟨Real.toEReal, rfl⟩, EReal.coe_add⟩ : ℝ →+ EReal) g Finset.univ).symm
  simp only [← EReal.coe_mul, hsum, Finset.sum_mul]

/-- A real factor passes through a sum of extended reals, or both ways of writing it are infinite. -/
theorem sum_mul_coe_or {ι : Type} [Fintype ι] (f : ι → EReal) (c : ℝ) :
    (∑ t, f t) * (c : EReal) = ∑ t, f t * (c : EReal)
      ∨ Infinite ((∑ t, f t) * (c : EReal)) ∧ Infinite (∑ t, f t * (c : EReal)) := by
  by_cases h0 : c = 0
  · simp [h0]
  by_cases h : ∃ t, Infinite (f t)
  · obtain ⟨t, ht⟩ := h
    exact Or.inr ⟨infinite_mul_coe _ c (sum_infinite f t ht) h0, sum_infinite _ t (infinite_mul_coe _ c ht h0)⟩
  · have hf : ∀ t, f t = ((f t).toReal : EReal) := fun t =>
      (EReal.coe_toReal (fun ht => h ⟨t, Or.inl ht⟩) fun ht => h ⟨t, Or.inr ht⟩).symm
    refine Or.inl ?_
    rw [Finset.sum_congr rfl fun t _ => hf t, sum_mul_coe]
    exact Finset.sum_congr rfl fun t _ => by rw [← hf t]

/-- Rows of sums with a factor after the sum, and inside it, are made the same row. -/
theorem unit_sum_mul {ι : Type} [Fintype ι] {n : ℕ} (f : ι → Fin n → EReal) (c : EReal) :
    unit (fun d => (∑ t, f t d) * c) = unit (fun d => ∑ t, f t d * c) := by
  have hinf : Infinite c → unit (fun d => (∑ t, f t d) * c) = unit (fun d => ∑ t, f t d * c) := fun hc =>
    (unit_of_zero_or_infinite _ fun d => mul_infinite _ c hc).trans
      (unit_of_zero_or_infinite _ fun d => sum_mul_infinite _ c hc).symm
  induction c with
  | bot => exact hinf (Or.inr rfl)
  | top => exact hinf (Or.inl rfl)
  | coe c =>
    by_cases h : ∃ d, Infinite ((∑ t, f t d) * (c : EReal)) ∧ Infinite (∑ t, f t d * (c : EReal))
    · obtain ⟨d, h1, h2⟩ := h
      rw [unit_of_infinite _ d h1, unit_of_infinite _ d h2]
    · congr 1
      funext d
      exact (sum_mul_coe_or (fun t => f t d) c).resolve_right fun hd => h ⟨d, hd⟩

/-- The two attention sums are made the same row. -/
theorem unit_attendFast_eq (q : Fin 64 → EReal) (k v : Fin 2048 → Fin 64 → EReal) (ms : EReal) (mt : Fin 2048 → EReal) :
    unit (attendFast q k (fun t d => v t d * mt t) ms) = unit (attend q k v ms mt) := by
  refine (unit_sum_mul _ ms).trans ?_
  congr 1
  funext d
  rw [attend]
  refine Finset.sum_congr rfl fun t _ => ?_
  simp only [collisionFast_eq, unitFast_eq]
  ac_rfl

/-! ## The convolution -/

/-- Row `s - 2` of one column of the masked values: zero outside the sequence. -/
def padded (v : Fin 2048 → EReal) (s : ℕ) : EReal := if h : 2 ≤ s ∧ s < 2050 then v ⟨s - 2, by omega⟩ else 0

/-- One element of the result: the attention row made a unit row, and the five taps of the convolution added. -/
def result (q : Fin 64 → EReal) (k v : Fin 2048 → Fin 64 → EReal) (mt : Fin 2048 → EReal) (w : Fin 5 → EReal)
    (s : Fin 2048) (d : Fin 64) : EReal :=
  unit (attend q k v (mt s) mt) d + ∑ j : Fin 5, padded (fun t => v t d * mt t) (s + j) * w j

/-- The five taps added one after another are the sum of the five. -/
theorem add_taps (x : EReal) (f : Fin 5 → EReal) : x + f 0 + f 1 + f 2 + f 3 + f 4 = x + ∑ j, f j := by
  rw [Fin.sum_univ_five]
  simp only [add_assoc]

end Cert.Formula

end
-- ==== Proof.Consts.lean ====
/- The float constants the two programs spell, as the extended reals they denote. -/
module

public import proofs.«01_k».proof.KernelIdeal
public import Idealize.ShloMosaic.PureOps.Ideal
public import Idealize.ShloMosaic.PureOps.IdealRules

@[expose] public section

noncomputable section

namespace Cert.Consts

open Idealize.ShloMosaic

/-- The bound the inner products are clipped at: the number `1 - 17 / 2^24`, the f32 word nearest to `1 - 10^-6`. -/
theorem ofBits_bound : Ideal.ofBits .f32 0x3F7FFFEF#32 = ((16777199 / 16777216 : ℝ) : EReal) := by
  simp [Ideal.ofBits, Ideal.ieee, -EReal.coe_mul]; norm_num

/-- Its negation. -/
theorem ofBits_neg_bound : Ideal.ofBits .f32 0xBF7FFFEF#32 = ((-(16777199 / 16777216) : ℝ) : EReal) := by
  simp [Ideal.ofBits, Ideal.ieee, -EReal.coe_mul]; norm_num

/-- The word of `-1`. -/
theorem ofBits_neg_one : Ideal.ofBits .f32 0xBF800000#32 = ((-1 : ℝ) : EReal) := by
  simp [Ideal.ofBits, Ideal.ieee, -EReal.coe_mul]; norm_num

/-- The word of `10^6`. -/
theorem ofBits_million : Ideal.ofBits .f32 0x49742400#32 = ((1000000 : ℝ) : EReal) := by
  simp [Ideal.ofBits, Ideal.ieee, -EReal.coe_mul]; norm_num

/-- The word of `10^7`. -/
theorem ofBits_ten_million : Ideal.ofBits .f32 0x4B189680#32 = ((10000000 : ℝ) : EReal) := by
  simp [Ideal.ofBits, Ideal.ieee, -EReal.coe_mul]

/-- The word of `15707288`. -/
theorem ofBits_c0 : Ideal.ofBits .f32 0x4B6FAC98#32 = ((15707288 : ℝ) : EReal) := by
  simp [Ideal.ofBits, Ideal.ieee, -EReal.coe_mul]

/-- The word of `2121144`. -/
theorem ofBits_c1 : Ideal.ofBits .f32 0x4A0176E0#32 = ((2121144 : ℝ) : EReal) := by
  simp [Ideal.ofBits, Ideal.ieee, -EReal.coe_mul]; norm_num

/-- The word of `742610`. -/
theorem ofBits_c2 : Ideal.ofBits .f32 0x49354D20#32 = ((742610 : ℝ) : EReal) := by
  simp [Ideal.ofBits, Ideal.ieee, -EReal.coe_mul]; norm_num

/-- The word of `187293`. -/
theorem ofBits_c3 : Ideal.ofBits .f32 0x4836E740#32 = ((187293 : ℝ) : EReal) := by
  simp [Ideal.ofBits, Ideal.ieee, -EReal.coe_mul]; norm_num

/-- The quotient of two numbers, the divisor not zero. -/
theorem div_eq (a b : ℝ) (h : b ≠ 0) : Ideal.div (a : EReal) (b : EReal) = ((a / b : ℝ) : EReal) := by
  rw [Ideal.div_coe h, ← EReal.coe_mul, EReal.coe_eq_coe_iff, mul_one_div]

/-- The least length a row is divided by: one millionth, squared. -/
theorem millionth_sq : Ideal.div 1 (Ideal.ofBits .f32 0x49742400#32) * Ideal.div 1 (Ideal.ofBits .f32 0x49742400#32)
    = ((1 / 1000000000000 : ℝ) : EReal) := by
  rw [ofBits_million, ← EReal.coe_one, div_eq _ _ (by norm_num), ← EReal.coe_mul]
  norm_num

/-- The arc cosine of the word of `-1` is the number π. -/
theorem acos_neg_one : Ideal.acos (Ideal.ofBits .f32 0xBF800000#32) = ((Real.pi : ℝ) : EReal) := by
  rw [ofBits_neg_one]
  show (if (-1 : ℝ) ≤ -1 ∧ (-1 : ℝ) ≤ 1 then ((Real.arccos (-1) : ℝ) : EReal) else ⊥) = _
  rw [if_pos (by norm_num), Real.arccos_neg_one]

open Cert.KernelIdeal in
/-- The kernel's constants, each the exact number it is named. -/
theorem named_eps_sq : Named.named (F := Ideal) κ "eps_sq" (φ := .f32) 0x179ABE15#32 = ((1 / 1000000000000000000000000 : ℝ) : EReal) :=
  IdealRules.named_const.ideal_named_scalar _ _ _ _ rfl

open Cert.KernelIdeal in
/-- The constant coefficient over π. -/
theorem named_c0 : Named.named (F := Ideal) κ "c0" (φ := .f32) 0x3EFFFD2F#32 = (((1963411 / 1250000) * Real.pi⁻¹ : ℝ) : EReal) :=
  IdealRules.named_const.ideal_named_scalar _ _ _ _ rfl

open Cert.KernelIdeal in
/-- The linear coefficient over π. -/
theorem named_c1 : Named.named (F := Ideal) κ "c1" (φ := .f32) 0xBD8A46EF#32 = (((-265143 / 1250000) * Real.pi⁻¹ : ℝ) : EReal) :=
  IdealRules.named_const.ideal_named_scalar _ _ _ _ rfl

open Cert.KernelIdeal in
/-- The quadratic coefficient over π. -/
theorem named_c2 : Named.named (F := Ideal) κ "c2" (φ := .f32) 0x3CC1A480#32 = (((74261 / 1000000) * Real.pi⁻¹ : ℝ) : EReal) :=
  IdealRules.named_const.ideal_named_scalar _ _ _ _ rfl

open Cert.KernelIdeal in
/-- The cubic coefficient over π. -/
theorem named_c3 : Named.named (F := Ideal) κ "c3" (φ := .f32) 0xBBC35A8B#32 = (((-187293 / 10000000) * Real.pi⁻¹ : ℝ) : EReal) :=
  IdealRules.named_const.ideal_named_scalar _ _ _ _ rfl

end Cert.Consts

end
-- ==== Proof.Tile.lean ====
/- What one tile of 256 query rows computes.  The kernel body writes its block in eight tiles, each by the same
   operations on the tile's own rows; the operations are stated once here, and read once at an index. -/
module

public import proofs.«01_k».proof.Proof.Gen.KernelIdeal.Skeleton
public import proofs.«01_k».proof.Proof.Formula
public import proofs.«01_k».proof.Proof.Consts
public import Idealize.ShloMosaic.Lib.Pointwise

@[expose] public section

set_option maxRecDepth 16384

noncomputable section

namespace Cert.KernelIdeal.Tile

open Cert.KernelIdeal Cert.KernelIdeal.Gen Idealize.ShloMosaic Idealize.SL.Sem

/-- The collision probability of every query row of a tile with every key row, from their inner products. -/
def prob (s : FVec Ideal S256x2048 .f32) : FVec Ideal S256x2048 .f32 :=
  have a := minimumf (absf s) (broadcast S256x2048 (Scalar.ofBits .f32 0x3F7FFFEF#32))
  have p3 := addf (mulf (broadcast S256x2048 (Named.named κ "c3" 0xBBC35A8B#32)) a) (broadcast S256x2048 (Named.named κ "c2" 0x3CC1A480#32))
  have p2 := addf (mulf p3 a) (broadcast S256x2048 (Named.named κ "c1" 0xBD8A46EF#32))
  have p1 := addf (mulf p2 a) (broadcast S256x2048 (Named.named κ "c0" 0x3EFFFD2F#32))
  have y := subf (broadcast S256x2048 (Scalar.ofBits .f32 0x3F800000#32)) a
  have v := mulf (mulf y (rsqrt y)) p1
  select (cmpf .oge s (broadcast S256x2048 (Scalar.ofBits .f32 0x00000000#32)))
    (subf (broadcast S256x2048 (Scalar.ofBits .f32 0x3F800000#32)) v) v

/-- The attention rows of a tile: the normalised query rows `qt` against all normalised key rows `kn`, the masked value
    rows `vm` summed with the eighth powers of the collision probabilities, times the query rows' mask `mr`. -/
def attention (qt : FVec Ideal S256x64 .f32) (kn vm : FVec Ideal S2048x64 .f32) (mr : Vec Ideal S1x256 .f32) : FVec Ideal S256x64 .f32 :=
  have p := prob (matmul dot_S256x64_S2048x64_S256x2048_1_1_0_0_n_n none qt kn (constant S256x2048 .f32 0x00000000#32))
  have p2 := mulf p p
  have p4 := mulf p2 p2
  mulf (matmul dot_S256x2048_S2048x64_S256x64_1_0_0_1_n_n none (mulf p4 p4) vm (constant S256x64 .f32 0x00000000#32))
    (broadcastTo S256x64 (shapeCast S256x1 (shapeCast S256 mr shapeCasts_S1x256_S256) shapeCasts_S256_S256x1) broadcasts_S256x1_S256x64)

/-- The rows of a tile made unit rows. -/
def normalised (x : FVec Ideal S256x64 .f32) : FVec Ideal S256x64 .f32 :=
  have ss := shapeCast S256x1 (multiReduction .add [1] S256 (mulf x x) 0x00000000#32 reduces_S256x64_S256 (.inl rfl) rfl) shapeCasts_S256_S256x1
  mulf x (broadcastTo S256x64 (rsqrt (maximumf ss (broadcast S256x1 (Named.named κ "eps_sq" 0x179ABE15#32)))) broadcasts_S256x1_S256x64)

/-- A value tile times one tap of the convolution. -/
def tap (v : Vec Ideal S1x256x64 .f32) (f : Ideal .f32) : FVec Ideal S256x64 .f32 :=
  mulf (shapeCast S256x64 v shapeCasts_S1x256x64_S256x64) (broadcast S256x64 f)

/-- One tile of the block: its attention rows made unit rows, and the five shifted value tiles `v0` … `v4` added, each
    times its tap of `w`. -/
def tile (qt : FVec Ideal S256x64 .f32) (kn vm : FVec Ideal S2048x64 .f32) (w : FVec Ideal S5 .f32) (mr : Vec Ideal S1x256 .f32)
    (v0 v1 v2 v3 v4 : Vec Ideal S1x256x64 .f32) : FVec Ideal S1x256x64 .f32 :=
  have x := normalised (attention qt kn vm mr)
  have x := addf x (tap v0 (extractAt ![0] (extractStridedSlice S1 ![0] w slices_S5_o0_S1) inpos_S1_p0))
  have x := addf x (tap v1 (extractAt ![0] (extractStridedSlice S1 ![1] w slices_S5_o1_S1) inpos_S1_p0))
  have x := addf x (tap v2 (extractAt ![0] (extractStridedSlice S1 ![2] w slices_S5_o2_S1) inpos_S1_p0))
  have x := addf x (tap v3 (extractAt ![0] (extractStridedSlice S1 ![3] w slices_S5_o3_S1) inpos_S1_p0))
  have x := addf x (tap v4 (extractAt ![0] (extractStridedSlice S1 ![4] w slices_S5_o4_S1) inpos_S1_p0))
  shapeCast S1x256x64 x shapeCasts_S256x64_S1x256x64

/-- The collision probabilities of a tile, element by element. -/
theorem prob_at (s : FVec Ideal S256x2048 .f32) (r : Fin 256) (t : Fin 2048) :
    prob s (ix2 r t) = Formula.collisionFast (s (ix2 r t)) := by
  pointwise [prob]
  rw [Consts.ofBits_bound, Consts.named_c0, Consts.named_c1, Consts.named_c2, Consts.named_c3]
  rfl

/-- An attention row of a tile is the attention sum of its query row. -/
theorem attention_at (qt : FVec Ideal S256x64 .f32) (kn vm : FVec Ideal S2048x64 .f32) (mr : Vec Ideal S1x256 .f32)
    (r : Fin 256) (d : Fin 64) :
    attention qt kn vm mr (ix2 r d)
      = (∑ t : Fin 2048, Formula.pow8 (Formula.collisionFast (∑ e : Fin 64, qt (ix2 r e) * kn (ix2 t e))) * vm (ix2 t d)) * mr (ix2 0 r) := by
  pointwise [attention]
  simp only [prob_at]
  pointwise []
  rfl

/-- A normalised row of a tile. -/
theorem normalised_at (x : FVec Ideal S256x64 .f32) (r : Fin 256) (d : Fin 64) :
    normalised x (ix2 r d) = Formula.unitFast (fun e : Fin 64 => x (ix2 r e)) d := by
  pointwise [normalised]
  rw [Consts.named_eps_sq]
  rfl

/-- The normalised query rows of a block. -/
theorem query_at (x : Vec Ideal S1x2048x64 .f32) (r : Fin 2048) (d : Fin 64) :
    k0_pay1 (F := Ideal) x (ix2 r d) = Formula.unitFast (fun e : Fin 64 => x (ix3 0 r e)) d := by
  pointwise [k0_pay1]
  rw [Consts.named_eps_sq]
  rfl

/-- The normalised key rows of a block. -/
theorem key_at (x : Vec Ideal S1x2048x64 .f32) (r : Fin 2048) (d : Fin 64) :
    k0_pay2 (F := Ideal) x (ix2 r d) = Formula.unitFast (fun e : Fin 64 => x (ix3 0 r e)) d := query_at x r d

/-- One element of a tile. -/
theorem tile_at (qt : FVec Ideal S256x64 .f32) (kn vm : FVec Ideal S2048x64 .f32) (w : FVec Ideal S5 .f32) (mr : Vec Ideal S1x256 .f32)
    (v0 v1 v2 v3 v4 : Vec Ideal S1x256x64 .f32) (r : Fin 256) (d : Fin 64) :
    tile qt kn vm w mr v0 v1 v2 v3 v4 (ix3 0 r d)
      = Formula.unitFast (fun d : Fin 64 => (∑ t : Fin 2048, Formula.pow8 (Formula.collisionFast (∑ e : Fin 64, qt (ix2 r e) * kn (ix2 t e)))
            * vm (ix2 t d)) * mr (ix2 0 r)) d
        + v0 (ix3 0 r d) * w (ix1 0) + v1 (ix3 0 r d) * w (ix1 1) + v2 (ix3 0 r d) * w (ix1 2) + v3 (ix3 0 r d) * w (ix1 3)
        + v4 (ix3 0 r d) * w (ix1 4) := by
  pointwise [tile, tap]
  rw [normalised_at]
  simp only [attention_at]

end Cert.KernelIdeal.Tile

end
-- ==== Proof.Block.lean ====
/- What the kernel body writes in one grid point's block: every element, from the blocks it reads. -/
module

public import proofs.«01_k».proof.Proof.Gen.KernelIdeal.Frame
public import proofs.«01_k».proof.Proof.Tile
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

/-- One element of the block, from the query block `x0`, the key block `x1`, the padded block of masked values `x2`, the
    mask `x3` and the taps `x4`. -/
def element (x0 x1 : FVec Ideal S1x2048x64 .f32) (x2 : FVec Ideal S1x2056x64 .f32) (x3 : FVec Ideal S1x2048 .f32)
    (x4 : FVec Ideal S1x1x5 .f32) (s : Fin 2048) (d : Fin 64) : EReal :=
  Formula.unitFast (Formula.attendFast (fun e => x0 (ix3 0 s e)) (fun t e => x1 (ix3 0 t e))
      (fun t e => x2 (ix3 0 ⟨4 + t, by omega⟩ e)) (x3 (ix2 0 s))) d
    + x2 (ix3 0 ⟨2 + s, by omega⟩ d) * x4 (ix3 0 0 0) + x2 (ix3 0 ⟨3 + s, by omega⟩ d) * x4 (ix3 0 0 1)
    + x2 (ix3 0 ⟨4 + s, by omega⟩ d) * x4 (ix3 0 0 2) + x2 (ix3 0 ⟨5 + s, by omega⟩ d) * x4 (ix3 0 0 3)
    + x2 (ix3 0 ⟨6 + s, by omega⟩ d) * x4 (ix3 0 0 4)

/-- Rows `o` to `o + 256` of the padded values lie inside them. -/
theorem rows_inb {o : ℕ} (h : o + 256 ≤ 2056) :
    ∀ a, (![0, o, 0] : Fin 3 → ℕ) a + S1x256x64.size a ≤ S1x2056x64.size a := by
  intro a; fin_cases a <;> simp [Shape.size] <;> omega

/-- Positions `o` to `o + 256` of the mask lie inside it. -/
theorem mask_inb {o : ℕ} (h : o + 256 ≤ 2048) : ∀ a, (![0, o] : Fin 2 → ℕ) a + S1x256.size a ≤ S1x2048.size a := by
  intro a; fin_cases a <;> simp [Shape.size] <;> omega

/-- Rows `o` to `o + 256` of the normalised queries lie inside them. -/
theorem query_slices {o : ℕ} (h : o + 256 ≤ 2048) : S2048x64.Slices ![o, 0] S256x64 := by
  refine ⟨rfl, ?_⟩
  intro a; fin_cases a <;> simp [Shape.size] <;> omega

/-- Rows `o` to `o + 256` of the padded values. -/
def rowsFrom (x2 : FVec Ideal S1x2056x64 .f32) (o : ℕ) (h : o + 256 ≤ 2056) : Vec Ideal S1x256x64 .f32 :=
  View.ld (Val := Elt Ideal) (S := S1x2056x64) (e' := .f32) x2 (Rect.unit (s := S1x2056x64) ![0, o, 0] S1x256x64.size (rows_inb h))

/-- The tile that starts at row `o`, with what it reads of the five blocks. -/
def tileFrom (x0 x1 : FVec Ideal S1x2048x64 .f32) (x2 : FVec Ideal S1x2056x64 .f32) (x3 : FVec Ideal S1x2048 .f32)
    (x4 : FVec Ideal S1x1x5 .f32) (o : ℕ) (h : o + 256 ≤ 2048) : FVec Ideal S1x256x64 .f32 :=
  Tile.tile (extractStridedSlice S256x64 ![o, 0] (k0_pay42 (F := Ideal) x0 x1 x2 x3 x4) (query_slices h))
    (k0_pay43 (F := Ideal) x0 x1 x2 x3 x4) (k0_pay44 (F := Ideal) x0 x1 x2 x3 x4) (k0_pay45 (F := Ideal) x0 x1 x2 x3 x4)
    (View.ld (Val := Elt Ideal) (S := S1x2048) (e' := .f32) x3 (Rect.unit (s := S1x2048) ![0, o] S1x256.size (mask_inb h)))
    (rowsFrom x2 (o + 2) (by omega)) (rowsFrom x2 (o + 3) (by omega)) (rowsFrom x2 (o + 4) (by omega))
    (rowsFrom x2 (o + 5) (by omega)) (rowsFrom x2 (o + 6) (by omega))

/-- Each element of the tile that starts at row `o` is the block's element at that row. -/
theorem tileFrom_at (x0 x1 : FVec Ideal S1x2048x64 .f32) (x2 : FVec Ideal S1x2056x64 .f32) (x3 : FVec Ideal S1x2048 .f32)
    (x4 : FVec Ideal S1x1x5 .f32) (o : ℕ) (h : o + 256 ≤ 2048) (x : S1x256x64.Idx) (y : S1x2048x64.Idx)
    (h1 : (y 1 : ℕ) = o + x 1) (h2 : (y 2 : ℕ) = x 2) :
    tileFrom x0 x1 x2 x3 x4 o h x = element x0 x1 x2 x3 x4 (y 1) (y 2) := by
  obtain ⟨r, d, rfl⟩ : ∃ (r : Fin 256) (d : Fin 64), x = ix3 0 r d := ⟨x 1, x 2, by blk_ext⟩
  have hd : y 2 = d := Fin.ext h2
  have hs : y 1 = (⟨o + r, by omega⟩ : Fin 2048) := Fin.ext h1
  rw [hd, hs]
  unfold tileFrom element
  rw [Tile.tile_at]
  pointwise [k0_pay42, k0_pay43, k0_pay44, k0_pay45, k0_pay3, k0_pay4, rowsFrom]
  simp only [Tile.query_at, Tile.key_at]
  pointwise []
  simp only [Nat.add_right_comm o _ (r : ℕ), Nat.add_comm (o + (r : ℕ)) _]
  rfl

/-- Every element of the block the body leaves. -/
theorem out_at (x0 x1 : FVec Ideal S1x2048x64 .f32) (x2 : FVec Ideal S1x2056x64 .f32) (x3 : FVec Ideal S1x2048 .f32)
    (x4 : FVec Ideal S1x1x5 .f32) (y : S1x2048x64.Idx) : out0_5 (F := Ideal) x0 x1 x2 x3 x4 y = element x0 x1 x2 x3 x4 (y 1) (y 2) := by
  unfold out0_5
  canon_tiles x h
  case piece0 => exact tileFrom_at x0 x1 x2 x3 x4 1792 (by decide) x y h1 h2
  case piece1 => exact tileFrom_at x0 x1 x2 x3 x4 1536 (by decide) x y h1 h2
  case piece2 => exact tileFrom_at x0 x1 x2 x3 x4 1280 (by decide) x y h1 h2
  case piece3 => exact tileFrom_at x0 x1 x2 x3 x4 1024 (by decide) x y h1 h2
  case piece4 => exact tileFrom_at x0 x1 x2 x3 x4 768 (by decide) x y h1 h2
  case piece5 => exact tileFrom_at x0 x1 x2 x3 x4 512 (by decide) x y h1 h2
  case piece6 => exact tileFrom_at x0 x1 x2 x3 x4 256 (by decide) x y h1 h2
  case piece7 => exact tileFrom_at x0 x1 x2 x3 x4 0 (by decide) x y (h1.trans (Nat.zero_add _).symm) h2

end Cert.KernelIdeal.Block

end
-- ==== Proof.Array.lean ====
/- What the kernel's result array holds after the run, as one function of the argument arrays. -/
module

public import proofs.«01_k».proof.Proof.Gen.KernelIdeal.Value
public import proofs.«01_k».proof.Proof.Block
public import Idealize.ShloMosaic.Lib.Claim

@[expose] public section

set_option maxRecDepth 16384

noncomputable section

namespace Cert.KernelIdeal.Array

open Cert.KernelIdeal Cert.KernelIdeal.Gen Idealize.ShloMosaic Idealize.ShloMosaic.TcCoe Idealize.SL.Sem

variable (m : (ℓ : Loc nD τ sig) → Buf (Elt Ideal) ℓ)

/-- The queries as launched. -/
abbrev argQ (c : Dev nD) : FVec Ideal S1x12x2048x64 .f32 := m ((c : Thread nD τ).loc main_arg0)
/-- The keys as launched. -/
abbrev argK (c : Dev nD) : FVec Ideal S1x12x2048x64 .f32 := m ((c : Thread nD τ).loc main_arg1)
/-- The values as launched. -/
abbrev argV (c : Dev nD) : FVec Ideal S1x12x2048x64 .f32 := m ((c : Thread nD τ).loc main_arg2)
/-- The mask as launched. -/
abbrev argM (c : Dev nD) : FVec Ideal S1x2048 .f32 := m ((c : Thread nD τ).loc main_arg3)
/-- The taps as launched. -/
abbrev argW (c : Dev nD) : FVec Ideal S12x1x5x1 .f32 := m ((c : Thread nD τ).loc main_arg4)

/-- The block of each array that a grid point handles: the head's own, and the whole mask. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![t.val, 0, 0]
    ∧ win0_5.index t = ![t.val, 0, 0] ∧ t.val < 12 :=
  (by decide +kernel : ∀ t : Fin grid0.N, _)

/-- A grid point as a head. -/
def head (t : Fin cfg0.N) : Fin 12 := ⟨t.val, (idx t).2.2.2.2.2.2⟩

/-- The host operations before the kernel, as one list. -/
theorem entry_eq (c : Dev nD) (b : Ref sig .tc) : V m c b = StableHlo.after
    (hostOps0 (F := Ideal) ++ (hostOps0_1 (F := Ideal) ++ hostOps0_2 (F := Ideal))) (fun b => m (c, b)) (Proc.devRef .tc b) := by
  simp only [V, List.flatten_cons, List.flatten_nil, List.append_nil]

/-- The array of query blocks holds the queries, reshaped. -/
theorem entry_v0 (c : Dev nD) : V m c main_v0 = shapeCast S12x2048x64 (argQ m c) shapeCasts_S1x12x2048x64_S12x2048x64 := by
  rw [entry_eq]
  simp only [hostOps0, hostOps0_1, hostOps0_2, List.cons_append, List.nil_append]
  entry_read
  rfl

/-- The array of key blocks holds the keys, reshaped. -/
theorem entry_v1 (c : Dev nD) : V m c main_v1 = shapeCast S12x2048x64 (argK m c) shapeCasts_S1x12x2048x64_S12x2048x64 := by
  rw [entry_eq]
  simp only [hostOps0, hostOps0_1, hostOps0_2, List.cons_append, List.nil_append]
  entry_read
  rfl

/-- The array of tap blocks holds the taps, reshaped. -/
theorem entry_v7 (c : Dev nD) : V m c main_v7 = shapeCast S12x1x5 (argW m c) shapeCasts_S12x1x5x1_S12x1x5 := by
  rw [entry_eq]
  simp only [hostOps0, hostOps0_1, hostOps0_2, List.cons_append, List.nil_append]
  entry_read
  rfl

/-- The array of padded value blocks: the masked values with four zero rows before and after each head's. -/
def paddedValues (v : FVec Ideal S1x12x2048x64 .f32) (k : FVec Ideal S1x2048 .f32) : FVec Ideal S12x2056x64 .f32 :=
  pad S12x2056x64 ![0, 4, 0] ![0, 4, 0] ![0, 0, 0]
    (shapeCast S12x2048x64 (mulf v (broadcastInDim S1x12x2048x64 ![0, 1, 2, 3]
        bcast_S1x1x2048x1_S1x12x2048x64_0_1_2_3 (broadcastInDim S1x1x2048x1 ![0, 2] bcast_S1x2048_S1x1x2048x1_0_2 k)))
      shapeCasts_S1x12x2048x64_S12x2048x64)
    (sitofp .f32 (constantI S_ 32 0#32)) pads_S12x2048x64_S12x2056x64_000_440_000 h_S_

/-- What that array holds when the kernel starts. -/
theorem entry_v6 (c : Dev nD) : V m c main_v6 = paddedValues (argV m c) (argM m c) := by
  rw [entry_eq]
  simp only [hostOps0, hostOps0_1, hostOps0_2, List.cons_append, List.nil_append]
  entry_read
  rfl

/-- Row `2 + s` of a head's padded values is row `s - 2` of its masked values, and zero outside the sequence. -/
theorem paddedValues_at (v : FVec Ideal S1x12x2048x64 .f32) (k : FVec Ideal S1x2048 .f32) (h : Fin 12) (p : Fin 2056)
    (e : Fin 64) (s : ℕ) (hp : (p : ℕ) = 2 + s) : paddedValues v k (ix3 h p e)
      = Formula.padded (fun r => v (ix4 0 h r e) * k (ix2 0 r)) s := by
  have hz : (FloatOps.sitofp (F := Ideal) FTy.f32 0#32 : EReal) = 0 := by
    show (((0#32 : BitVec 32).toInt : ℝ) : EReal) = 0
    simp
  pointwise [paddedValues]
  rw [Formula.padded, hz]
  by_cases hs : 2 ≤ s ∧ s < 2050
  · rw [dif_pos hs, dif_pos (by omega)]
    have hr : (⟨p - 4, by omega⟩ : Fin 2048) = ⟨s - 2, by omega⟩ := Fin.ext (by show (p : ℕ) - 4 = s - 2; omega)
    rw [hr]
  · rw [dif_neg hs, dif_neg (by omega)]

/-- The query block of a point is the head's queries. -/
theorem query_block (c : Dev nD) (t : Fin cfg0.N) (s : Fin 2048) (e : Fin 64) :
    iblk m c 0 t (ix3 0 s e) = argQ m c (ix4 0 (head t) s e) := by
  have hi : ((cfg0.win 0).blk t).view.emb (ix3 0 s e) = ix3 (head t) s e := by blk_ext [idx t, head]
  show V m c main_v0 (((cfg0.win 0).blk t).view.emb (ix3 0 s e)) = _
  rw [hi, entry_v0]
  pointwise

/-- The key block of a point is the head's keys. -/
theorem key_block (c : Dev nD) (t : Fin cfg0.N) (s : Fin 2048) (e : Fin 64) :
    iblk m c 1 t (ix3 0 s e) = argK m c (ix4 0 (head t) s e) := by
  have hi : ((cfg0.win 1).blk t).view.emb (ix3 0 s e) = ix3 (head t) s e := by blk_ext [idx t, head]
  show V m c main_v1 (((cfg0.win 1).blk t).view.emb (ix3 0 s e)) = _
  rw [hi, entry_v1]
  pointwise

/-- The mask block of a point is the mask. -/
theorem mask_block (c : Dev nD) (t : Fin cfg0.N) (s : Fin 2048) : iblk m c 3 t (ix2 0 s) = argM m c (ix2 0 s) := by
  have hi : ((cfg0.win 3).blk t).view.emb (ix2 0 s) = ix2 0 s := by blk_ext [idx t]
  show V m c main_arg3 (((cfg0.win 3).blk t).view.emb (ix2 0 s)) = _
  rw [hi, V_main_arg3]

/-- The taps block of a point is the head's taps. -/
theorem taps_block (c : Dev nD) (t : Fin cfg0.N) (j : Fin 5) : iblk m c 4 t (ix3 0 0 j) = argW m c (ix4 (head t) 0 j 0) := by
  have hi : ((cfg0.win 4).blk t).view.emb (ix3 0 0 j) = ix3 (head t) 0 j := by blk_ext [idx t, head]
  show V m c main_v7 (((cfg0.win 4).blk t).view.emb (ix3 0 0 j)) = _
  rw [hi, entry_v7]
  pointwise

/-- The padded block of a point is the head's padded values. -/
theorem padded_block (c : Dev nD) (t : Fin cfg0.N) (p : Fin 2056) (e : Fin 64) (s : ℕ) (hp : (p : ℕ) = 2 + s) :
    iblk m c 2 t (ix3 0 p e) = Formula.padded (fun r => argV m c (ix4 0 (head t) r e) * argM m c (ix2 0 r)) s := by
  have hi : ((cfg0.win 2).blk t).view.emb (ix3 0 p e) = ix3 (head t) p e := by blk_ext [idx t, head]
  show V m c main_v6 (((cfg0.win 2).blk t).view.emb (ix3 0 p e)) = _
  rw [hi, entry_v6, paddedValues_at _ _ _ _ _ s hp]

/-- The result of head `h` at row `s` and column `d`, from the argument arrays. -/
def result (q k v : FVec Ideal S1x12x2048x64 .f32) (mk : FVec Ideal S1x2048 .f32) (w : FVec Ideal S12x1x5x1 .f32)
    (h : Fin 12) (s : Fin 2048) (d : Fin 64) : EReal :=
  Formula.result (fun e => q (ix4 0 h s e)) (fun t e => k (ix4 0 h t e)) (fun t e => v (ix4 0 h t e))
    (fun t => mk (ix2 0 t)) (fun j => w (ix4 h 0 j 0)) s d

/-- A row inside the sequence is a row of the masked values. -/
theorem padded_inside (v : Fin 2048 → EReal) (t : Fin 2048) : Formula.padded v (2 + t) = v t := by
  rw [Formula.padded, dif_pos (by omega)]
  congr 1
  exact Fin.ext (by simp)

/-- The block's element is the result's, for blocks that hold these rows. -/
theorem element_of_blocks (x0 x1 : FVec Ideal S1x2048x64 .f32) (x2 : FVec Ideal S1x2056x64 .f32) (x3 : FVec Ideal S1x2048 .f32)
    (x4 : FVec Ideal S1x1x5 .f32) (q k v : Fin 2048 → Fin 64 → EReal) (mt : Fin 2048 → EReal) (w : Fin 5 → EReal)
    (hq : ∀ s e, x0 (ix3 0 s e) = q s e) (hk : ∀ s e, x1 (ix3 0 s e) = k s e)
    (hv : ∀ (p : Fin 2056) e (s : ℕ), (p : ℕ) = 2 + s → x2 (ix3 0 p e) = Formula.padded (fun r => v r e * mt r) s)
    (hm : ∀ s, x3 (ix2 0 s) = mt s) (hw : ∀ j, x4 (ix3 0 0 j) = w j) (s : Fin 2048) (d : Fin 64) :
    Block.element x0 x1 x2 x3 x4 s d = Formula.result (q s) k v mt w s d := by
  have hin : ∀ (t : Fin 2048) e, x2 (ix3 0 ⟨4 + t, by omega⟩ e) = v t e * mt t := fun t e =>
    (hv ⟨4 + t, by omega⟩ e (2 + t) (by show 4 + (t : ℕ) = 2 + (2 + t); omega)).trans
      (padded_inside (fun r => v r e * mt r) t)
  have htap : ∀ (j : Fin 5) (p : Fin 2056), (p : ℕ) = 2 + (s + j) → x2 (ix3 0 p d) * x4 (ix3 0 0 j)
      = Formula.padded (fun r => v r d * mt r) (s + j) * w j := fun j p hp => by rw [hv p d _ hp, hw]
  rw [Block.element, htap 0 ⟨2 + s, _⟩ rfl, htap 1 ⟨3 + s, _⟩ (by show 3 + (s : ℕ) = 2 + (s + 1); omega),
    htap 2 ⟨4 + s, _⟩ (by show 4 + (s : ℕ) = 2 + (s + 2); omega), htap 3 ⟨5 + s, _⟩ (by show 5 + (s : ℕ) = 2 + (s + 3); omega),
    htap 4 ⟨6 + s, _⟩ (by show 6 + (s : ℕ) = 2 + (s + 4); omega),
    Formula.add_taps _ fun j => Formula.padded (fun r => v r d * mt r) (s + j) * w j, Formula.result,
    ← Formula.unit_attendFast_eq, ← Formula.unitFast_eq]
  simp only [hq, hk, hin, hm]

/-- The result array after the run: every element is the result's. -/
theorem final (c : Dev nD) : (dats m 0 c).arrAt 5 cfg0.N
      = fun i => result (argQ m c) (argK m c) (argV m c) (argM m c) (argW m c) (i 0) (i 1) (i 2) := by
  refine (dats m 0 c).arrAt_eq_of_covers 5 _ (by decide +kernel) fun t _ y => ?_
  blk_simp
  rw [after0_5]
  refine (Block.out_at _ _ _ _ _ _).trans ?_
  refine (element_of_blocks _ _ _ _ _ (fun s e => argQ m c (ix4 0 (head t) s e)) (fun s e => argK m c (ix4 0 (head t) s e))
    (fun s e => argV m c (ix4 0 (head t) s e)) (fun s => argM m c (ix2 0 s)) (fun j => argW m c (ix4 (head t) 0 j 0))
    (query_block m c t) (key_block m c t) (fun p e s hp => padded_block m c t p e s hp) (mask_block m c t) (taps_block m c t)
    _ _).trans ?_
  have hi : (win0_5.blk t).view.emb y = ix3 (head t) (y 1) (y 2) := by blk_ext [idx t, head]
  rw [hi]
  rfl

end Cert.KernelIdeal.Array

end
-- ==== Proof.RefValue.lean ====
/- What the reference computes: each of its results at an index, down to the formula of one row. -/
module

public import proofs.«01_k».proof.Proof.Gen.ReferenceIdeal.Run
public import proofs.«01_k».proof.Proof.Consts
public import proofs.«01_k».proof.Proof.Formula
public import Idealize.ShloMosaic.Lib.Pointwise

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The queries. -/
abbrev argQ : FVec Ideal S1x12x2048x64 .f32 := V0 (Proc.devRef .tc main_arg0)
/-- The keys. -/
abbrev argK : FVec Ideal S1x12x2048x64 .f32 := V0 (Proc.devRef .tc main_arg1)
/-- The values. -/
abbrev argV : FVec Ideal S1x12x2048x64 .f32 := V0 (Proc.devRef .tc main_arg2)
/-- The mask. -/
abbrev argM : FVec Ideal S1x2048 .f32 := V0 (Proc.devRef .tc main_arg3)
/-- The taps. -/
abbrev argW : FVec Ideal S12x1x5x1 .f32 := V0 (Proc.devRef .tc main_arg4)

/-- A head's row of queries. -/
abbrev rowQ (h : Fin 12) (s : Fin 2048) : Fin 64 → EReal := fun e => argQ V0 (ix4 0 h s e)
/-- A head's row of keys. -/
abbrev rowK (h : Fin 12) (s : Fin 2048) : Fin 64 → EReal := fun e => argK V0 (ix4 0 h s e)

/-- The mask, repeated for every head. -/
theorem mask_at (h : Fin 12) (s : Fin 2048) : res_main_v46 V0 (ix2 h s) = argM V0 (ix2 0 s) := by
  pointwise [res_main_v46]

/-- The clipped inner product of a unit query row and a unit key row. -/
theorem clip_at (h : Fin 12) (s t : Fin 2048) : res_main_v64 V0 (ix3 h s t)
    = Formula.clip (∑ e, Formula.unit (rowQ V0 h s) e * Formula.unit (rowK V0 h t) e) := by
  pointwise [res_main_v64, res_main_v40, res_main_v41]
  simp only [Formula.clip, Formula.unit, ← Consts.millionth_sq, ← Consts.ofBits_bound, ← Consts.ofBits_neg_bound]
  rfl

/-- The collision probability of a query row and a key row. -/
theorem collision_at (h : Fin 12) (s t : Fin 2048) : res_main_v97 V0 (ix3 h s t)
    = Formula.collision (∑ e, Formula.unit (rowQ V0 h s) e * Formula.unit (rowK V0 h t) e) := by
  have hc := clip_at V0 h s t
  have habs : ∀ x : Ideal .f32, (FloatOps.absf x : Ideal .f32) = (max (x : EReal) (-(x : EReal)) : EReal) := fun _ => rfl
  pointwise [res_main_v97, res_main_v86, res_main_v69]
  rw [hc]
  simp only [habs, Consts.ofBits_c0, Consts.ofBits_c1, Consts.ofBits_c2, Consts.ofBits_c3, Consts.ofBits_ten_million,
    Consts.div_eq _ 10000000 (by norm_num), Consts.acos_neg_one]
  rfl

/-- The attention sum. -/
theorem attend_at (h : Fin 12) (s : Fin 2048) (d : Fin 64) : res_main_v107 V0 (ix3 h s d)
    = Formula.attend (rowQ V0 h s) (rowK V0 h) (fun t e => argV V0 (ix4 0 h t e)) (argM V0 (ix2 0 s))
        (fun t => argM V0 (ix2 0 t)) d := by
  pointwise [res_main_v107, res_main_v99, res_main_v98]
  simp only [collision_at, mask_at]
  rfl

/-- The masked values with two zero rows before and after each head's. -/
def paddedValues (v : FVec Ideal S1x12x2048x64 .f32) (k : FVec Ideal S1x2048 .f32) : FVec Ideal S1x12x2052x64 .f32 :=
  pad S1x12x2052x64 ![0, 0, 2, 0] ![0, 0, 2, 0] ![0, 0, 0, 0] (mulf v (broadcastInDim S1x12x2048x64 ![0, 1, 2, 3] bcast_S1x1x2048x1_S1x12x2048x64_0_1_2_3 (broadcastInDim S1x1x2048x1 ![0, 2] bcast_S1x2048_S1x1x2048x1_0_2 k)))
    (sitofp .f32 (constantI S_ 32 0#32)) pads_S1x12x2048x64_S1x12x2052x64_000_000_220_000 h_S_

/-- Row `p` of a head's padded values is row `p - 2` of its masked values, and zero outside the sequence. -/
theorem paddedValues_at (v : FVec Ideal S1x12x2048x64 .f32) (k : FVec Ideal S1x2048 .f32) (h : Fin 12) (p : Fin 2052)
    (e : Fin 64) : paddedValues v k (ix4 0 h p e) = Formula.padded (fun r => v (ix4 0 h r e) * k (ix2 0 r)) p := by
  have hz : (FloatOps.sitofp (F := Ideal) FTy.f32 0#32 : EReal) = 0 := by
    show (((0#32 : BitVec 32).toInt : ℝ) : EReal) = 0
    simp
  pointwise [paddedValues]
  rw [Formula.padded, hz]
  by_cases hp : 2 ≤ (p : ℕ) ∧ (p : ℕ) < 2050
  · rw [dif_pos hp, dif_pos (by omega)]
  · rw [dif_neg hp, dif_neg (by omega)]

/-- The same of the reference's own padded values. -/
theorem padded_at (h : Fin 12) (p : Fin 2052) (e : Fin 64) : res_main_v3 V0 (ix4 0 h p e)
    = Formula.padded (fun r => argV V0 (ix4 0 h r e) * argM V0 (ix2 0 r)) p :=
  paddedValues_at (argV V0) (argM V0) h p e

/-- What the run leaves in the result. -/
abbrev output : FVec Ideal S12x2048x64 .f32 := val3 V0 (Proc.devRef .tc main_v117)

/-- The result at an index: the attention row made a unit row, and the convolution of the masked values. -/
theorem output_at (h : Fin 12) (s : Fin 2048) (d : Fin 64) : output V0 (ix3 h s d)
    = Formula.result (rowQ V0 h s) (rowK V0 h) (fun t e => argV V0 (ix4 0 h t e)) (fun t => argM V0 (ix2 0 t))
        (fun j => argW V0 (ix4 h 0 j 0)) s d := by
  rw [output, val3_main_v117]
  pointwise []
  simp only [attend_at, padded_at, Nat.add_comm _ (s : ℕ), Consts.millionth_sq]
  rw [Formula.result, Fin.sum_univ_five]
  rfl

end Cert.ReferenceIdeal.RefValue

end
-- ==== Proof.Equation.lean ====
/- The equation of the two results: from equal arguments, the reference's result is the kernel's result array. -/
module

public import proofs.«01_k».proof.Proof.Array
public import proofs.«01_k».proof.Proof.RefValue

@[expose] public section

noncomputable section

namespace Cert.Equation

open Idealize.ShloMosaic Idealize.ShloMosaic.TcCoe Idealize.SL.Sem

/-- Where the arguments are the same, the reference's result is the kernel's. -/
theorem output_eq (m : (ℓ : Loc KernelIdeal.nD KernelIdeal.τ KernelIdeal.sig) → Buf (Elt Ideal) ℓ) (c : Dev KernelIdeal.nD)
    (V0 : Valuation ReferenceIdeal.τ ReferenceIdeal.sig (Elt Ideal))
    (hq : ReferenceIdeal.RefValue.argQ V0 = KernelIdeal.Array.argQ m c)
    (hk : ReferenceIdeal.RefValue.argK V0 = KernelIdeal.Array.argK m c)
    (hv : ReferenceIdeal.RefValue.argV V0 = KernelIdeal.Array.argV m c)
    (hm : ReferenceIdeal.RefValue.argM V0 = KernelIdeal.Array.argM m c)
    (hw : ReferenceIdeal.RefValue.argW V0 = KernelIdeal.Array.argW m c) :
    ReferenceIdeal.RefValue.output V0 = (KernelIdeal.Gen.dats m 0 c).arrAt 5 KernelIdeal.cfg0.N := by
  rw [KernelIdeal.Array.final m c]
  funext i
  obtain ⟨a, s, d, rfl⟩ : ∃ (a : Fin 12) (s : Fin 2048) (d : Fin 64), i = ix3 a s d := ⟨i 0, i 1, i 2, eq_ix3 i⟩
  refine (ReferenceIdeal.RefValue.output_at V0 a s d).trans ?_
  have hrow : ReferenceIdeal.RefValue.rowQ V0 a s = fun e => KernelIdeal.Array.argQ m c (ix4 0 a s e) :=
    funext fun e => congrFun hq _
  have hrows : ReferenceIdeal.RefValue.rowK V0 a = fun t e => KernelIdeal.Array.argK m c (ix4 0 a t e) :=
    funext fun t => funext fun e => congrFun hk _
  rw [hrow, hrows, hv, hm, hw]
  rfl

end Cert.Equation

end
-- ==== Proof.Arccos.lean ====
/- How near Abramowitz and Stegun's formula 4.4.45 is to the arc cosine: within 6.2e-5 of the angle itself.

   Beside the formula's cubic stands a quintic, fitted so that the root of `1 - a` times the quintic grows with the angle
   of `a` at nearly the rate one everywhere on `[0, 1]`.  Both vanish at `1`, so nearly equal slopes give nearly equal
   values; and the cubic is near the quintic.  Each comparison is that of a polynomial of whole coefficients with zero on `[0, 1]`, which
   is decided by cutting the interval into 64 pieces. -/
module

public import Mathlib.Analysis.SpecialFunctions.Trigonometric.Inverse
public import Mathlib.Analysis.SpecialFunctions.Trigonometric.DerivHyp
public import Mathlib.Analysis.Calculus.Deriv.Pow
public import Mathlib.Analysis.Calculus.Deriv.MeanValue
public import Mathlib.Tactic.Linarith
public import Mathlib.Tactic.NormNum
public import Mathlib.Tactic.Ring
public import Mathlib.Tactic.FieldSimp

@[expose] public section

noncomputable section

namespace Cert.Arccos

/-! ## Polynomials that are not negative on the unit interval -/

/-- The value of a polynomial, its coefficients from the constant one upwards. -/
def eval (p : List ℤ) (x : ℝ) : ℝ := p.foldr (fun (c : ℤ) (r : ℝ) => (c : ℝ) + x * r) 0

/-- The sum of two polynomials. -/
def plus : List ℤ → List ℤ → List ℤ
  | [], q => q
  | p, [] => p
  | c :: p, d :: q => (c + d) :: plus p q

/-- The polynomial of `x` that has the value of `p` at `k + x`. -/
def shift (k : ℤ) : List ℤ → List ℤ
  | [] => []
  | c :: p => plus (c :: shift k p) ((shift k p).map (k * ·))

/-- A power of `n` times the polynomial, as a polynomial of `n` times its argument. -/
def stretch (n : ℤ) : List ℤ → List ℤ
  | [] => []
  | c :: p => c * n ^ (p.length + 1) :: stretch n p

/-- A number that the polynomial does not fall below on the unit interval. -/
def low : List ℤ → ℤ
  | [] => 0
  | c :: p => c + min (low p) 0

theorem eval_cons (c : ℤ) (p : List ℤ) (x : ℝ) : eval (c :: p) x = c + x * eval p x := rfl

theorem eval_plus (p q : List ℤ) (x : ℝ) : eval (plus p q) x = eval p x + eval q x := by
  induction p generalizing q with
  | nil => simp [plus, eval]
  | cons c p ih =>
    cases q with
    | nil => simp [plus, eval]
    | cons d q => rw [plus, eval_cons, eval_cons, eval_cons, ih]; push_cast; ring

theorem eval_map_mul (k : ℤ) (p : List ℤ) (x : ℝ) : eval (p.map (k * ·)) x = k * eval p x := by
  induction p with
  | nil => simp [eval]
  | cons c p ih => rw [List.map_cons, eval_cons, eval_cons, ih]; push_cast; ring

theorem eval_shift (k : ℤ) (p : List ℤ) (x : ℝ) : eval (shift k p) x = eval p (k + x) := by
  induction p with
  | nil => rfl
  | cons c p ih => rw [shift, eval_plus, eval_map_mul, eval_cons, eval_cons, ih]; ring

theorem eval_stretch (n : ℤ) (p : List ℤ) (x : ℝ) : eval (stretch n p) (n * x) = n ^ p.length * eval p x := by
  induction p with
  | nil => simp [stretch, eval]
  | cons c p ih => rw [stretch, eval_cons, eval_cons, ih, List.length_cons]; push_cast; ring

theorem low_le (p : List ℤ) (x : ℝ) (h0 : 0 ≤ x) (h1 : x ≤ 1) : (low p : ℝ) ≤ eval p x := by
  induction p with
  | nil => simp [low, eval]
  | cons c p ih =>
    rw [low, eval_cons]
    push_cast
    have h : min (low p : ℝ) 0 ≤ x * eval p x := by
      rcases le_total 0 (eval p x) with h | h
      · exact (min_le_right _ _).trans (mul_nonneg h0 h)
      · exact (min_le_left _ _).trans (ih.trans (by nlinarith))
    linarith

/-- On each of `n` equal pieces of the unit interval the lower bound is not negative. -/
def Holds (n : ℕ) (p : List ℤ) : Prop := ∀ k ∈ List.range n, 0 ≤ low (shift k (stretch n p))

instance (n : ℕ) (p : List ℤ) : Decidable (Holds n p) := inferInstanceAs (Decidable (∀ k ∈ List.range n, _))

/-- Then the polynomial is not negative on the unit interval. -/
theorem eval_nonneg (n : ℕ) (hn : 0 < n) (p : List ℤ) (hp : Holds n p) (x : ℝ) (h0 : 0 ≤ x) (h1 : x < 1) : 0 ≤ eval p x := by
  have hn' : (0 : ℝ) < n := by exact_mod_cast hn
  have hx : 0 ≤ n * x := mul_nonneg hn'.le h0
  have hk : ⌊n * x⌋₊ < n := (Nat.floor_lt hx).mpr (by nlinarith)
  have hlow := hp _ (List.mem_range.mpr hk)
  have h := low_le (shift ⌊n * x⌋₊ (stretch n p)) (n * x - ⌊n * x⌋₊) (by linarith [Nat.floor_le hx])
    (by linarith [Nat.lt_floor_add_one (n * x)])
  rw [eval_shift] at h
  have hs := eval_stretch n p x
  push_cast at h hs
  rw [add_sub_cancel, hs] at h
  have h2 : (0 : ℝ) ≤ low (shift ⌊n * x⌋₊ (stretch n p)) := by exact_mod_cast hlow
  exact nonneg_of_mul_nonneg_right (h2.trans h) (pow_pos hn' _)

/-! ## The cubic, the quintic, and its slope -/

/-- The cubic of Abramowitz and Stegun's formula 4.4.45. -/
def cubic (a : ℝ) : ℝ :=
  15707288 / 10000000 - 2121144 / 10000000 * a + 742610 / 10000000 * (a * a) - 187293 / 10000000 * (a * a * a)

/-- A quintic whose product with the root of `1 - a` is nearer to the arc cosine. -/
def quintic (a : ℝ) : ℝ :=
  (1570796 - 214590 * a + 88611 * a ^ 2 - 47330 * a ^ 3 + 22420 * a ^ 4 - 5710 * a ^ 5) / 1000000

/-- Its slope: the derivative of `s` times the quintic of `1 - 2 s^2`, as a polynomial of `a = 1 - 2 s^2`. -/
def slope (a : ℝ) : ℝ :=
  (1999976 - 998214 * a + 727035 * a ^ 2 - 510670 * a ^ 3 + 258880 * a ^ 4 - 62810 * a ^ 5) / 1000000

theorem slope_nonneg (a : ℝ) (h0 : 0 ≤ a) (h1 : a < 1) : 0 ≤ slope a := by
  have h := eval_nonneg 64 (by norm_num) [1999976, -998214, 727035, -510670, 258880, -62810] (by decide +kernel) a h0 h1
  simp only [eval, List.foldr] at h
  push_cast at h
  rw [slope]
  linarith

theorem slope_low (a : ℝ) (h0 : 0 ≤ a) (h1 : a < 1) : (2 * (1 - 14 / 1000000)) ^ 2 ≤ slope a ^ 2 * (1 + a) := by
  have h := eval_nonneg 64 (by norm_num) [15999792, 7095914848, -88271793612, 410407773296, -910525167075, 1072981159085,
    -748013059480, 406874497280, -224565416100, 98648714200, -28575409500, 3945096100] (by decide +kernel) a h0 h1
  simp only [eval, List.foldr] at h
  push_cast at h
  rw [slope]
  linarith

theorem slope_high (a : ℝ) (h0 : 0 ≤ a) (h1 : a < 1) : slope a ^ 2 * (1 + a) ≤ (2 * (1 + 14 / 1000000)) ^ 2 := by
  have h := eval_nonneg 64 (by norm_num) [208000208, -7095914848, 88271793612, -410407773296, 910525167075, -1072981159085,
    748013059480, -406874497280, 224565416100, -98648714200, 28575409500, -3945096100] (by decide +kernel) a h0 h1
  simp only [eval, List.foldr] at h
  push_cast at h
  rw [slope]
  linarith

theorem cubic_le (a : ℝ) (h0 : 0 ≤ a) (h1 : a < 1) : cubic a ≤ (1 + 47 / 1000000) * quintic a := by
  have h := eval_nonneg 64 (by norm_num) [1410274120, -24856857300, 143541647170, -286029245100, 224210537400, -57102683700]
    (by decide +kernel) a h0 h1
  simp only [eval, List.foldr] at h
  push_cast at h
  rw [cubic, quintic]
  linarith

theorem le_cubic (a : ℝ) (h0 : 0 ≤ a) (h1 : a < 1) : (1 - 47 / 1000000) * quintic a ≤ cubic a := by
  have h := eval_nonneg 64 (by norm_num) [66274120, 24655142700, -143458352830, 285984754900, -224189462600, 57097316300]
    (by decide +kernel) a h0 h1
  simp only [eval, List.foldr] at h
  push_cast at h
  rw [cubic, quintic]
  linarith

/-! ## From the slopes to the values

With `x` half the angle, `1 - cos (2 x)` is `2 (sin x)^2`, and the root times the quintic is a polynomial of `sin x`. -/

/-- The root of `1 - a` times the quintic, at `a` the cosine of `2 x`. -/
def root (x : ℝ) : ℝ := √2 * (Real.sin x * quintic (1 - 2 * Real.sin x ^ 2))

/-- The derivative of the sine, from that of the hyperbolic sine on the imaginary axis. -/
theorem hasDerivAt_sine (x : ℝ) : HasDerivAt Real.sin (Real.cos x) x := by
  have h : HasDerivAt Complex.sin (Complex.cos x) (x : ℂ) := by
    have hs : Complex.sin = fun z => Complex.sinh (z * Complex.I) * -Complex.I := by
      funext z
      rw [Complex.sinh_mul_I, mul_assoc, mul_neg, Complex.I_mul_I, neg_neg, mul_one]
    have hin : HasDerivAt (fun z : ℂ => z * Complex.I) Complex.I (x : ℂ) := by
      simpa using (hasDerivAt_id (x : ℂ)).mul_const Complex.I
    rw [hs]
    refine (((Complex.hasDerivAt_sinh _).comp (x : ℂ) hin).mul_const (-Complex.I)).congr_deriv ?_
    rw [Complex.cosh_mul_I, mul_assoc, mul_neg, Complex.I_mul_I, neg_neg, mul_one]
  exact h.real_of_complex

/-- The slope of the product. -/
theorem hasDerivAt_root (x : ℝ) : HasDerivAt root (√2 * Real.cos x * slope (1 - 2 * Real.sin x ^ 2)) x := by
  have hq : ∀ s : ℝ, HasDerivAt (fun s => s * quintic (1 - 2 * s ^ 2)) (slope (1 - 2 * s ^ 2)) s := by
    intro s
    have hp : ∀ n : ℕ, HasDerivAt (fun r : ℝ => r ^ n) (n * (1 - 2 * s ^ 2) ^ (n - 1)) (1 - 2 * s ^ 2) :=
      fun n => hasDerivAt_pow n _
    have h := (((((((hasDerivAt_id (1 - 2 * s ^ 2)).const_mul 214590).const_sub 1570796).add ((hp 2).const_mul 88611)).sub
      ((hp 3).const_mul 47330)).add ((hp 4).const_mul 22420)).sub ((hp 5).const_mul 5710)).div_const 1000000
    have hin : HasDerivAt (fun s : ℝ => 1 - 2 * s ^ 2) (-(2 * ((2 : ℕ) * s ^ (2 - 1)))) s :=
      ((hasDerivAt_pow 2 s).const_mul 2).const_sub 1
    have hc : HasDerivAt (fun s => quintic (1 - 2 * s ^ 2)) _ s := HasDerivAt.comp s (h₂ := quintic) h hin
    refine ((hasDerivAt_id s).mul hc).congr_deriv ?_
    simp only [id, slope, quintic]
    push_cast
    ring
  refine (((hq (Real.sin x)).comp x (hasDerivAt_sine x)).const_mul √2).congr_deriv ?_
  ring

/-- Between the angles of `1` and of `0`, the slope is nearly that of the angle. -/
theorem slope_near (x : ℝ) (h0 : 0 < x) (h1 : x < Real.pi / 4) :
    |√2 * Real.cos x * slope (1 - 2 * Real.sin x ^ 2) - 2| ≤ 28 / 1000000 := by
  have hpi := Real.pi_pos
  have hs : 0 < Real.sin x := Real.sin_pos_of_pos_of_lt_pi h0 (by linarith)
  have hc : 0 < Real.cos x := Real.cos_pos_of_mem_Ioo ⟨by linarith, by linarith⟩
  have ha0 : 0 ≤ 1 - 2 * Real.sin x ^ 2 := by
    have h := Real.cos_nonneg_of_mem_Icc (x := 2 * x) ⟨by linarith, by linarith⟩
    rwa [Real.cos_two_mul, Real.cos_sq', show 2 * (1 - Real.sin x ^ 2) - 1 = 1 - 2 * Real.sin x ^ 2 by ring] at h
  have ha1 : 1 - 2 * Real.sin x ^ 2 < 1 := by nlinarith
  have hsq : (√2 * Real.cos x * slope (1 - 2 * Real.sin x ^ 2)) ^ 2
      = slope (1 - 2 * Real.sin x ^ 2) ^ 2 * (1 + (1 - 2 * Real.sin x ^ 2)) := by
    rw [mul_pow, mul_pow, Real.sq_sqrt (by norm_num), Real.cos_sq']
    ring
  have hn : 0 ≤ √2 * Real.cos x * slope (1 - 2 * Real.sin x ^ 2) :=
    mul_nonneg (mul_nonneg (Real.sqrt_nonneg 2) hc.le) (slope_nonneg _ ha0 ha1)
  have hl := (abs_le_of_sq_le_sq' (hsq ▸ slope_low _ ha0 ha1) hn).2
  have hh := (abs_le_of_sq_le_sq' (hsq ▸ slope_high _ ha0 ha1) (by norm_num)).2
  rw [abs_le]
  constructor <;> linarith

/-- The value is nearly the angle, by the mean value theorem: both vanish at zero. -/
theorem root_near (x : ℝ) (h0 : 0 < x) (h1 : x ≤ Real.pi / 4) : |root x - 2 * x| ≤ 14 / 1000000 * (2 * x) := by
  obtain ⟨y, hy, h⟩ := exists_hasDerivAt_eq_slope root (fun y => √2 * Real.cos y * slope (1 - 2 * Real.sin y ^ 2)) h0
    (fun y _ => (hasDerivAt_root y).continuousAt.continuousWithinAt) (fun y _ => hasDerivAt_root y)
  have hz : root 0 = 0 := by simp [root]
  have hn := slope_near y hy.1 (hy.2.trans_le h1)
  rw [h, hz, sub_zero, sub_zero, div_sub' h0.ne', abs_div, abs_of_pos h0, div_le_iff₀ h0] at hn
  rw [mul_comm 2 x]
  linarith

/-- Of a number from `0` to below `1`: the root of `1 - a` times the quintic is nearly its arc cosine. -/
theorem quintic_near (a : ℝ) (h0 : 0 ≤ a) (h1 : a < 1) :
    |√(1 - a) * quintic a - Real.arccos a| ≤ 14 / 1000000 * Real.arccos a := by
  have hA : 0 < Real.arccos a := Real.arccos_pos.mpr h1
  have hA' : Real.arccos a ≤ Real.pi / 2 := Real.arccos_le_pi_div_two.mpr h0
  have hs : 0 ≤ Real.sin (Real.arccos a / 2) := Real.sin_nonneg_of_nonneg_of_le_pi (by linarith) (by linarith [Real.pi_pos])
  have hcos : 1 - 2 * Real.sin (Real.arccos a / 2) ^ 2 = a := by
    have h := Real.cos_two_mul (Real.arccos a / 2)
    rw [mul_div_cancel₀ _ two_ne_zero, Real.cos_arccos (by linarith) h1.le, Real.cos_sq'] at h
    linarith
  have hroot : √2 * Real.sin (Real.arccos a / 2) = √(1 - a) := by
    rw [← Real.sqrt_sq hs, ← Real.sqrt_mul (by norm_num)]
    congr 1
    linarith
  have h := root_near (Real.arccos a / 2) (by linarith) (by linarith)
  rwa [root, hcos, ← mul_assoc, hroot, mul_div_cancel₀ _ two_ne_zero] at h

/-- The formula's angle is within 6.2e-5 of the angle, relatively. -/
theorem formula_near (a : ℝ) (h0 : 0 ≤ a) (h1 : a < 1) :
    |√(1 - a) * cubic a - Real.arccos a| ≤ 62 / 1000000 * Real.arccos a := by
  have hr := Real.sqrt_nonneg (1 - a)
  have hA := Real.arccos_nonneg a
  have hl := mul_le_mul_of_nonneg_left (le_cubic a h0 h1) hr
  have hh := mul_le_mul_of_nonneg_left (cubic_le a h0 h1) hr
  have h2 := abs_le.mp (quintic_near a h0 h1)
  rw [abs_le]
  constructor <;> nlinarith [h2.1, h2.2]

end Cert.Arccos

end
-- ==== Proof.Near.lean ====
/- The row with the arc cosine by its formula, beside the row with the exact arc cosine: how far apart they are. -/
module

public import proofs.«01_k».proof.Proof.Formula
public import proofs.«01_k».proof.Proof.Arccos

@[expose] public section

noncomputable section

namespace Cert.Formula

open Idealize.ShloMosaic

/-! ## The collision probability -/

/-- The probability that two rows of inner product `x` collide in one hash, from the exact arc cosine. -/
def exactCollision (x : EReal) : EReal := 1 - Ideal.div (Ideal.acos (clip x)) ((Real.pi : ℝ) : EReal)

/-- Both probabilities are real numbers, the exact one above zero, and the other one within 6.2e-5 of it. -/
theorem collision_near (x : EReal) : ∃ p p' : ℝ, collision x = (p : EReal) ∧ exactCollision x = (p' : EReal) ∧ 0 < p'
    ∧ |p - p'| ≤ 62 / 1000000 * p' := by
  obtain ⟨r, hc, hr, -, -⟩ := exists_clip x
  have hr' := abs_lt.mp hr
  have habs : max (r : EReal) (-(r : EReal)) = ((|r| : ℝ) : EReal) := by
    rw [← EReal.coe_neg, ← EReal.coe_strictMono.monotone.map_max, abs_eq_max_neg]
  have hpi : 0 < Real.pi := Real.pi_pos
  have hacos : Ideal.acos (r : EReal) = ((Real.arccos r : ℝ) : EReal) := by
    show (if -1 ≤ r ∧ r ≤ 1 then ((Real.arccos r : ℝ) : EReal) else ⊥) = _
    rw [if_pos ⟨hr'.1.le, hr'.2.le⟩]
  have hnear := Arccos.formula_near |r| (abs_nonneg r) hr
  have hexact : exactCollision x = ((1 - Real.arccos r / Real.pi : ℝ) : EReal) := by
    rw [exactCollision, hc, hacos, Ideal.div_coe hpi.ne', ← EReal.coe_mul, ← EReal.coe_one, ← EReal.coe_sub, mul_one_div]
  have hlt : Real.arccos r < Real.pi :=
    lt_of_le_of_ne (Real.arccos_le_pi r) fun h => absurd (Real.arccos_eq_pi.mp h) (not_le.mpr hr'.1)
  have hpos : 0 < 1 - Real.arccos r / Real.pi := by rw [sub_pos, div_lt_one hpi]; exact hlt
  by_cases h : 0 ≤ r
  · rw [abs_of_nonneg h] at hnear
    refine ⟨1 - √(1 - r) * Arccos.cubic r / Real.pi, _, ?_, hexact, hpos, ?_⟩
    · rw [collision, arccos, hc, habs, if_pos (EReal.coe_nonneg.mpr h), arccosNonneg_coe _ hr, Ideal.div_coe hpi.ne',
        ← EReal.coe_mul, ← EReal.coe_one, ← EReal.coe_sub, mul_one_div, abs_of_nonneg h]
      rfl
    · have hhalf : Real.arccos r ≤ Real.pi / 2 := Real.arccos_le_pi_div_two.mpr h
      rw [show 1 - √(1 - r) * Arccos.cubic r / Real.pi - (1 - Real.arccos r / Real.pi)
        = -((√(1 - r) * Arccos.cubic r - Real.arccos r) / Real.pi) by ring, abs_neg, abs_div, abs_of_pos hpi,
        div_le_iff₀ hpi, mul_assoc, sub_mul, div_mul_cancel₀ _ hpi.ne']
      refine hnear.trans ?_
      linarith
  · have h' := not_le.mp h
    rw [abs_of_neg h', Real.arccos_neg] at hnear
    refine ⟨√(1 - -r) * Arccos.cubic (-r) / Real.pi, _, ?_, hexact, hpos, ?_⟩
    · rw [collision, arccos, hc, habs, if_neg (mt EReal.coe_nonneg.mp h), arccosNonneg_coe _ hr, ← EReal.coe_sub,
        Ideal.div_coe hpi.ne', ← EReal.coe_mul, ← EReal.coe_one, ← EReal.coe_sub, abs_of_neg h', EReal.coe_eq_coe_iff,
        Arccos.cubic]
      field_simp
      ring
    · rw [show √(1 - -r) * Arccos.cubic (-r) / Real.pi - (1 - Real.arccos r / Real.pi)
        = (√(1 - -r) * Arccos.cubic (-r) - (Real.pi - Real.arccos r)) / Real.pi by field_simp, abs_div, abs_of_pos hpi,
        div_le_iff₀ hpi, mul_assoc, sub_mul, div_mul_cancel₀ _ hpi.ne', one_mul]
      exact hnear

/-- The square of a number near another is near its square. -/
theorem sq_near (p p' e : ℝ) (hp : 0 < p') (he : 0 ≤ e) (h : |p - p'| ≤ e * p') :
    |p * p - p' * p'| ≤ (2 * e + e * e) * (p' * p') := by
  have hs : |p + p'| ≤ (2 + e) * p' := by
    have := abs_add_le (p - p') (2 * p')
    rw [abs_of_pos (by linarith : 0 < 2 * p'), show p - p' + 2 * p' = p + p' by ring] at this
    linarith
  rw [show p * p - p' * p' = (p - p') * (p + p') by ring, abs_mul]
  calc |p - p'| * |p + p'| ≤ (e * p') * ((2 + e) * p') := mul_le_mul h hs (abs_nonneg _) (mul_nonneg he hp.le)
    _ = _ := by ring

/-- Both weights are real numbers, the exact one above zero, and the other one within a two-thousandth of it. -/
theorem weight_near (x : EReal) : ∃ w w' : ℝ, pow8 (collision x) = (w : EReal) ∧ pow8 (exactCollision x) = (w' : EReal)
    ∧ 0 < w' ∧ |w - w'| ≤ 1 / 2000 * w' := by
  obtain ⟨p, p', hp, hp', hpos, h⟩ := collision_near x
  have h1 := sq_near p p' _ hpos (by norm_num) h
  have h2 := sq_near _ _ _ (mul_pos hpos hpos) (by norm_num) h1
  have h3 := sq_near _ _ _ (mul_pos (mul_pos hpos hpos) (mul_pos hpos hpos)) (by norm_num) h2
  have hw : 0 < p' * p' * (p' * p') * (p' * p' * (p' * p')) := by positivity
  refine ⟨p * p * (p * p) * (p * p * (p * p)), p' * p' * (p' * p') * (p' * p' * (p' * p')), ?_, ?_, hw, ?_⟩
  · rw [hp, pow8]; norm_cast
  · rw [hp', pow8]; norm_cast
  · exact h3.trans (mul_le_mul_of_nonneg_right (by norm_num) hw.le)

/-! ## Rows of real numbers -/

/-- The length of a row. -/
def len {n : ℕ} (f : Fin n → ℝ) : ℝ := √(∑ k, f k * f k)

theorem len_nonneg {n : ℕ} (f : Fin n → ℝ) : 0 ≤ len f := Real.sqrt_nonneg _

theorem abs_le_len {n : ℕ} (f : Fin n → ℝ) (d : Fin n) : |f d| ≤ len f := by
  rw [← Real.sqrt_mul_self_eq_abs]
  exact Real.sqrt_le_sqrt (Finset.single_le_sum (f := fun k => f k * f k) (fun k _ => mul_self_nonneg (f k)) (Finset.mem_univ d))

/-- The triangle inequality. -/
theorem len_add {n : ℕ} (f g : Fin n → ℝ) : len (fun k => f k + g k) ≤ len f + len g := by
  have hf : 0 ≤ ∑ k, f k * f k := Finset.sum_nonneg fun k _ => mul_self_nonneg (f k)
  have hg : 0 ≤ ∑ k, g k * g k := Finset.sum_nonneg fun k _ => mul_self_nonneg (g k)
  have hcs : ∑ k, f k * g k ≤ len f * len g := by
    have h := Real.sum_mul_le_sqrt_mul_sqrt Finset.univ f g
    simp only [sq] at h
    exact h
  refine Real.sqrt_le_iff.mpr ⟨add_nonneg (len_nonneg f) (len_nonneg g), ?_⟩
  have hf' : len f ^ 2 = ∑ k, f k * f k := Real.sq_sqrt hf
  have hg' : len g ^ 2 = ∑ k, g k * g k := Real.sq_sqrt hg
  have hs : ∑ k, (f k + g k) * (f k + g k) = ∑ k, f k * f k + 2 * ∑ k, f k * g k + ∑ k, g k * g k := by
    rw [Finset.mul_sum, ← Finset.sum_add_distrib, ← Finset.sum_add_distrib]
    exact Finset.sum_congr rfl fun k _ => by ring
  rw [hs, add_sq, hf', hg']
  linarith

/-- A row that nowhere exceeds a multiple of another is at most that multiple as long. -/
theorem len_le {n : ℕ} (f g : Fin n → ℝ) (c : ℝ) (hc : 0 ≤ c) (h : ∀ k, |f k| ≤ c * g k) : len f ≤ c * len g := by
  refine Real.sqrt_le_iff.mpr ⟨mul_nonneg hc (len_nonneg g), ?_⟩
  rw [mul_pow, len, Real.sq_sqrt (Finset.sum_nonneg fun k _ => mul_self_nonneg (g k)), Finset.mul_sum]
  refine Finset.sum_le_sum fun k _ => ?_
  rw [← abs_mul_abs_self]
  calc |f k| * |f k| ≤ (c * g k) * (c * g k) := mul_le_mul (h k) (h k) (abs_nonneg _) ((abs_nonneg _).trans (h k))
    _ = _ := by ring

/-- Rows that differ by little, each divided by its length taken as at least `b`, differ by little. -/
theorem quotient_near {n : ℕ} (f g a : Fin n → ℝ) (b c : ℝ) (hb : 0 < b) (hc : 0 ≤ c) (h : ∀ k, |f k - g k| ≤ c * a k)
    (d : Fin n) : |f d / max (len f) b - g d / max (len g) b| ≤ 2 * c * (len a / max (len g) b) := by
  have hm : 0 < max (len f) b := lt_max_of_lt_right hb
  have hn : 0 < max (len g) b := lt_max_of_lt_right hb
  have hdiff : len (fun k => f k - g k) ≤ c * len a := len_le _ _ c hc h
  have hdiff' : len (fun k => g k - f k) ≤ c * len a := len_le _ _ c hc fun k => abs_sub_comm (f k) (g k) ▸ h k
  have hlen : |len f - len g| ≤ c * len a := by
    have h1 := len_add g fun k => f k - g k
    have h2 := len_add f fun k => g k - f k
    simp only [add_sub_cancel] at h1 h2
    rw [abs_le]
    constructor <;> linarith
  have hmax : |max (len f) b - max (len g) b| ≤ c * len a := (abs_max_sub_max_le_abs _ _ _).trans hlen
  have hd : |f d - g d| ≤ c * len a := (abs_le_len (fun k => f k - g k) d).trans hdiff
  have hq : |f d / max (len f) b| ≤ 1 := by
    rw [abs_div, abs_of_pos hm, div_le_one hm]
    exact (abs_le_len f d).trans (le_max_left _ _)
  have hid : f d / max (len f) b - g d / max (len g) b
      = ((f d - g d) - f d / max (len f) b * (max (len f) b - max (len g) b)) / max (len g) b := by
    field_simp
    ring
  rw [hid, abs_div, abs_of_pos hn, ← mul_div_assoc, div_le_div_iff_of_pos_right hn]
  refine (abs_sub _ _).trans ?_
  rw [abs_mul]
  have := mul_le_mul hq hmax (abs_nonneg _) zero_le_one
  linarith

/-! ## Rows of extended reals -/

/-- The magnitude of an extended real. -/
def mag (x : EReal) : EReal := max x (-x)

theorem mag_of_nonneg (x : EReal) (h : 0 ≤ x) : mag x = x := max_eq_left ((EReal.neg_le_zero.mpr h).trans h)

theorem mag_neg (x : EReal) : mag (-x) = mag x := by rw [mag, mag, neg_neg, max_comm]

/-- The magnitude of a product is the product of the magnitudes. -/
theorem mag_mul (x y : EReal) : mag (x * y) = mag x * mag y := by
  have key : ∀ a b : EReal, 0 ≤ a → 0 ≤ b → mag (a * b) = mag a * mag b := fun a b ha hb => by
    rw [mag_of_nonneg a ha, mag_of_nonneg b hb, mag_of_nonneg _ (mul_nonneg ha hb)]
  have hneg : ∀ a : EReal, a ≤ 0 → 0 ≤ -a := fun a ha => EReal.neg_nonneg.mpr ha
  rcases le_total 0 x with hx | hx <;> rcases le_total 0 y with hy | hy
  · exact key x y hx hy
  · rw [← mag_neg y, ← key x (-y) hx (hneg y hy), mul_neg, mag_neg]
  · rw [← mag_neg x, ← key (-x) y (hneg x hx) hy, neg_mul, mag_neg]
  · rw [← mag_neg x, ← mag_neg y, ← key (-x) (-y) (hneg x hx) (hneg y hy), neg_mul_neg]

/-- The length of a row divided by the length of another, the latter taken as at least `10^-12`. -/
def ratio {n : ℕ} (a f : Fin n → EReal) : EReal :=
  Ideal.div (Ideal.sqrt (∑ k, a k * a k)) (max (Ideal.sqrt (∑ k, f k * f k)) ((1 / 1000000000000 : ℝ) : EReal))

theorem coe_sum {ι : Type} [Fintype ι] (g : ι → ℝ) : ∑ t, (g t : EReal) = ((∑ t, g t : ℝ) : EReal) :=
  (map_sum (⟨⟨Real.toEReal, rfl⟩, EReal.coe_add⟩ : ℝ →+ EReal) g Finset.univ).symm

theorem sqrt_nonneg (x : EReal) (h : 0 ≤ x) : 0 ≤ Ideal.sqrt x := by
  induction x with
  | bot => simp at h
  | top => exact le_top
  | coe r =>
    rw [Ideal.sqrt_coe, if_neg (not_lt.mpr (EReal.coe_nonneg.mp h))]
    exact EReal.coe_nonneg.mpr (Real.sqrt_nonneg r)

theorem ratio_nonneg {n : ℕ} (a f : Fin n → EReal) : 0 ≤ ratio a f := by
  have hpos : (0 : EReal) < max (Ideal.sqrt (∑ k, f k * f k)) ((1 / 1000000000000 : ℝ) : EReal) :=
    lt_max_of_lt_right (by exact_mod_cast (by norm_num : (0 : ℝ) < 1 / 1000000000000))
  rw [ratio, Ideal.div, if_neg hpos.ne']
  exact mul_nonneg (sqrt_nonneg _ (Finset.sum_nonneg fun k _ => sq_nonneg (a k))) (EReal.inv_nonneg_of_nonneg hpos.le)

/-- The length of a row of real numbers. -/
theorem sqrt_sum_coe {n : ℕ} (f : Fin n → ℝ) : Ideal.sqrt (∑ k, (f k : EReal) * (f k : EReal)) = ((len f : ℝ) : EReal) := by
  simp only [← EReal.coe_mul]
  rw [coe_sum, Ideal.sqrt_coe, if_neg (not_lt.mpr (Finset.sum_nonneg fun k _ => mul_self_nonneg (f k)))]
  rfl

theorem ratio_coe {n : ℕ} (a f : Fin n → ℝ) :
    ratio (fun k => (a k : EReal)) (fun k => (f k : EReal)) = ((len a / max (len f) (1 / 1000000000000) : ℝ) : EReal) := by
  have hpos : (0 : ℝ) < max (len f) (1 / 1000000000000) := lt_max_of_lt_right (by norm_num)
  rw [ratio, sqrt_sum_coe, sqrt_sum_coe, ← EReal.coe_strictMono.monotone.map_max, Ideal.div_coe hpos.ne', ← EReal.coe_mul,
    mul_one_div]

theorem unit_coe {n : ℕ} (f : Fin n → ℝ) (d : Fin n) :
    unit (fun k => (f k : EReal)) d = ((f d / max (len f) (1 / 1000000000000) : ℝ) : EReal) := by
  have hpos : (0 : ℝ) < max (len f) (1 / 1000000000000) := lt_max_of_lt_right (by norm_num)
  rw [unit, sqrt_sum_coe, ← EReal.coe_strictMono.monotone.map_max, Ideal.div_coe hpos.ne', ← EReal.coe_mul, mul_one_div]

/-- Two rows of sums whose weights are near each other are made rows near each other: by a thousandth of the length of
    the sum over magnitudes, divided as the second row is. -/
theorem unit_near {ι : Type} [Fintype ι] {n : ℕ} (w w' : ι → ℝ) (hw : ∀ t, 0 < w' t) (h : ∀ t, |w t - w' t| ≤ 1 / 2000 * w' t)
    (y : ι → Fin n → EReal) (d : Fin n) :
    unit (fun e => ∑ t, (w t : EReal) * y t e) d ≤ unit (fun e => ∑ t, (w' t : EReal) * y t e) d
        + ((1 / 1000 : ℝ) : EReal) * ratio (fun e => ∑ t, (w' t : EReal) * mag (y t e)) (fun e => ∑ t, (w' t : EReal) * y t e)
      ∧ unit (fun e => ∑ t, (w' t : EReal) * y t e) d ≤ unit (fun e => ∑ t, (w t : EReal) * y t e) d
        + ((1 / 1000 : ℝ) : EReal) * ratio (fun e => ∑ t, (w' t : EReal) * mag (y t e)) (fun e => ∑ t, (w' t : EReal) * y t e) := by
  by_cases hinf : ∃ t e, Infinite (y t e)
  · obtain ⟨t, e, hte⟩ := hinf
    have hpos : 0 < w t := by have := (abs_le.mp (h t)).1; have := hw t; linarith
    have hrow : ∀ u : ι → ℝ, 0 < u t → unit (fun e => ∑ t, (u t : EReal) * y t e) = fun _ => 0 := fun u hu =>
      unit_of_infinite _ e (sum_infinite _ t (by rw [mul_comm]; exact infinite_mul_coe _ _ hte hu.ne'))
    have htol := mul_nonneg (EReal.coe_nonneg.mpr (by norm_num : (0 : ℝ) ≤ 1 / 1000))
      (ratio_nonneg (fun e => ∑ t, (w' t : EReal) * mag (y t e)) (fun e => ∑ t, (w' t : EReal) * y t e))
    rw [hrow w hpos, hrow w' (hw t), zero_add]
    exact ⟨htol, htol⟩
  · obtain ⟨z, hz⟩ : ∃ z : ι → Fin n → ℝ, y = fun t e => (z t e : EReal) :=
      ⟨fun t e => (y t e).toReal, funext fun t => funext fun e =>
        (EReal.coe_toReal (fun hy => hinf ⟨t, e, Or.inl hy⟩) fun hy => hinf ⟨t, e, Or.inr hy⟩).symm⟩
    have hmag : ∀ t e, mag (z t e : EReal) = ((|z t e| : ℝ) : EReal) := fun t e => by
      rw [mag, ← EReal.coe_neg, ← EReal.coe_strictMono.monotone.map_max, abs_eq_max_neg]
    subst hz
    simp only [hmag, ← EReal.coe_mul, coe_sum]
    rw [unit_coe, unit_coe, ratio_coe, ← EReal.coe_mul, ← EReal.coe_add, ← EReal.coe_add, EReal.coe_le_coe_iff,
      EReal.coe_le_coe_iff]
    have hq := quotient_near (fun e => ∑ t, w t * z t e) (fun e => ∑ t, w' t * z t e) (fun e => ∑ t, w' t * |z t e|)
      (1 / 1000000000000) (1 / 2000) (by norm_num) (by norm_num) (fun e => by
        rw [← Finset.sum_sub_distrib, Finset.mul_sum]
        refine (Finset.abs_sum_le_sum_abs _ _).trans (Finset.sum_le_sum fun t _ => ?_)
        rw [← sub_mul, abs_mul, ← mul_assoc]
        exact mul_le_mul_of_nonneg_right (h t) (abs_nonneg _)) d
    have hq' := abs_le.mp hq
    constructor <;> linarith [hq'.1, hq'.2]

/-! ## The attention row -/

/-- The attention sum with the exact arc cosine. -/
def exactAttend (q : Fin 64 → EReal) (k v : Fin 2048 → Fin 64 → EReal) (ms : EReal) (mt : Fin 2048 → EReal) (d : Fin 64) : EReal :=
  ∑ t, pow8 (exactCollision (∑ e, unit q e * unit (k t) e)) * ms * mt t * v t d

/-- The same sum over the magnitudes of masks and values. -/
def magnitudes (q : Fin 64 → EReal) (k v : Fin 2048 → Fin 64 → EReal) (ms : EReal) (mt : Fin 2048 → EReal) (d : Fin 64) : EReal :=
  ∑ t, pow8 (exactCollision (∑ e, unit q e * unit (k t) e)) * mag ms * mag (mt t) * mag (v t d)

/-- What the two attention rows, made unit rows, may differ by. -/
def tolerance (q : Fin 64 → EReal) (k v : Fin 2048 → Fin 64 → EReal) (ms : EReal) (mt : Fin 2048 → EReal) : EReal :=
  ((1 / 1000 : ℝ) : EReal) * ratio (magnitudes q k v ms mt) (exactAttend q k v ms mt)

theorem attend_near (q : Fin 64 → EReal) (k v : Fin 2048 → Fin 64 → EReal) (ms : EReal) (mt : Fin 2048 → EReal) (d : Fin 64) :
    unit (attend q k v ms mt) d ≤ unit (exactAttend q k v ms mt) d + tolerance q k v ms mt
      ∧ unit (exactAttend q k v ms mt) d ≤ unit (attend q k v ms mt) d + tolerance q k v ms mt := by
  choose w w' h1 h2 hpos hnear using fun t => weight_near (∑ e, unit q e * unit (k t) e)
  have ha : attend q k v ms mt = fun e => ∑ t, (w t : EReal) * (ms * mt t * v t e) := funext fun e =>
    Finset.sum_congr rfl fun t _ => by rw [h1]; ac_rfl
  have hx : exactAttend q k v ms mt = fun e => ∑ t, (w' t : EReal) * (ms * mt t * v t e) := funext fun e =>
    Finset.sum_congr rfl fun t _ => by rw [h2]; ac_rfl
  have hm : magnitudes q k v ms mt = fun e => ∑ t, (w' t : EReal) * mag (ms * mt t * v t e) := funext fun e =>
    Finset.sum_congr rfl fun t _ => by rw [h2, mag_mul, mag_mul]; ac_rfl
  rw [tolerance, ha, hx, hm]
  exact unit_near w w' hpos hnear _ d

/-- One element of the result with the exact arc cosine. -/
def exactResult (q : Fin 64 → EReal) (k v : Fin 2048 → Fin 64 → EReal) (mt : Fin 2048 → EReal) (w : Fin 5 → EReal)
    (s : Fin 2048) (d : Fin 64) : EReal :=
  unit (exactAttend q k v (mt s) mt) d + ∑ j : Fin 5, padded (fun t => v t d * mt t) (s + j) * w j

/-- The element with the formula and the element with the exact arc cosine differ by no more than the tolerance. -/
theorem result_near (q : Fin 64 → EReal) (k v : Fin 2048 → Fin 64 → EReal) (mt : Fin 2048 → EReal) (w : Fin 5 → EReal)
    (s : Fin 2048) (d : Fin 64) :
    result q k v mt w s d ≤ exactResult q k v mt w s d + tolerance q k v (mt s) mt
      ∧ exactResult q k v mt w s d ≤ result q k v mt w s d + tolerance q k v (mt s) mt := by
  have h := attend_near q k v (mt s) mt d
  rw [result, exactResult]
  constructor
  · rw [add_right_comm]; exact add_le_add_left h.1 _
  · rw [add_right_comm]; exact add_le_add_left h.2 _

end Cert.Formula

end
-- ==== Proof.PostValue.lean ====
/- The tolerance claim, read at an index: what the predicate compares, and that it holds of the kernel's result. -/
module

public import proofs.«01_k».proof.Post_near_exact
public import proofs.«01_k».proof.Proof.Consts
public import proofs.«01_k».proof.Proof.Near
public import proofs.«01_k».proof.Proof.RefValue
public import Idealize.ShloMosaic.Lib.Pointwise

@[expose] public section

set_option maxRecDepth 16384

noncomputable section

namespace Cert.Post_near_exact

open Idealize.ShloMosaic Cert.Post_near_exact.Facts

/-- The side conditions of the predicate's operations. -/
instance facts : Facts := by constructor <;> decide

variable (q k v : FVec Ideal S1x12x2048x64 .f32) (m : FVec Ideal S1x2048 .f32) (w : FVec Ideal S12x1x5x1 .f32)
  (out : FVec Ideal S12x2048x64 .f32)

/-- Row `p` of a head's padded values is row `p - 2` of its masked values, and zero outside the sequence. -/
theorem pad_at (h : Fin 12) (p : Fin 2052) (e : Fin 64) :
    fn_pad (F := Ideal) (mulf v (broadcastInDim S1x12x2048x64 ![0, 1, 2, 3] bcast_S1x1x2048x1_S1x12x2048x64_0_1_2_3
        (broadcastInDim S1x1x2048x1 ![0, 2] bcast_S1x2048_S1x1x2048x1_0_2 m))) (constantI S_ 32 0#32) (ix4 0 h p e)
      = Formula.padded (fun r => v (ix4 0 h r e) * m (ix2 0 r)) p :=
  ReferenceIdeal.RefValue.paddedValues_at v m h p e

/-- A head's row of queries. -/
abbrev rowQ (h : Fin 12) (s : Fin 2048) : Fin 64 → EReal := fun e => q (ix4 0 h s e)
/-- A head's rows of keys, or of values. -/
abbrev rows (h : Fin 12) : Fin 2048 → Fin 64 → EReal := fun t e => k (ix4 0 h t e)
/-- The mask. -/
abbrev masks : Fin 2048 → EReal := fun t => m (ix2 0 t)

/-- The number `10^-3`. -/
theorem thousandth : Ideal.div 1 (Ideal.ofBits .f32 0x447A0000#32) = ((1 / 1000 : ℝ) : EReal) := by
  have h : Ideal.ofBits .f32 0x447A0000#32 = ((1000 : ℝ) : EReal) := by
    simp [Ideal.ofBits, Ideal.ieee, -EReal.coe_mul]; norm_num
  rw [h, ← EReal.coe_one, Consts.div_eq _ _ (by norm_num)]

/-- The predicate at an index compares, both ways, the result with the element of the exact arc cosine. -/
theorem fn_at (h : Fin 12) (s : Fin 2048) (d : Fin 64) : fn (F := Ideal) q k v m w out (ix3 h s d)
    = Ideal.cmp .ole (out (ix3 h s d)) (Formula.exactResult (rowQ q h s) (rows k h) (rows v h) (masks m) (fun j => w (ix4 h 0 j 0)) s d
          + Formula.tolerance (rowQ q h s) (rows k h) (rows v h) (masks m s) (masks m))
      &&& Ideal.cmp .ole (Formula.exactResult (rowQ q h s) (rows k h) (rows v h) (masks m) (fun j => w (ix4 h 0 j 0)) s d)
        (out (ix3 h s d) + Formula.tolerance (rowQ q h s) (rows k h) (rows v h) (masks m s) (masks m)) := by
  have habs : ∀ x : Ideal .f32, (FloatOps.absf x : Ideal .f32) = (Formula.mag x : EReal) := fun _ => rfl
  have hlow : (id (constant (F := Ideal) S_ .f32 0xBF7FFFEF#32) ix0 : EReal) = _ := Consts.ofBits_neg_bound
  have hhigh : (id (constant (F := Ideal) S_ .f32 0x3F7FFFEF#32) ix0 : EReal) = _ := Consts.ofBits_bound
  pointwise [fn, fn_part1, fn_part2, fn_part3, fn_part4, fn_part5, fn_norm, fn_clip]
  simp only [habs, hlow, hhigh, thousandth, Consts.millionth_sq, Consts.acos_neg_one, Nat.add_comm _ (s : ℕ)]
  rw [pad_at, pad_at, pad_at, pad_at, pad_at]
  rw [Formula.exactResult, Fin.sum_univ_five]
  exact congrArg₂ (· &&& ·)
    (congrArg (Ideal.cmp .ole _) (congrArg₂ (· + ·) (congrArg₂ (· + ·) rfl rfl) (congrArg₂ (· * ·) rfl (congrArg₂ Ideal.div rfl rfl))))
    (congrArg₂ (Ideal.cmp .ole) (congrArg₂ (· + ·) rfl rfl)
      (congrArg₂ (· + ·) rfl (congrArg₂ (· * ·) rfl (congrArg₂ Ideal.div rfl rfl))))

/-- Where the result is the row of the formula, the predicate holds everywhere. -/
theorem fn_eq (h : ∀ (a : Fin 12) (s : Fin 2048) (d : Fin 64), out (ix3 a s d)
      = Formula.result (rowQ q a s) (rows k a) (rows v a) (masks m) (fun j => w (ix4 a 0 j 0)) s d) :
    fn (F := Ideal) q k v m w out = fun _ => 1#1 := by
  funext i
  obtain ⟨a, s, d, rfl⟩ : ∃ (a : Fin 12) (s : Fin 2048) (d : Fin 64), i = ix3 a s d := ⟨i 0, i 1, i 2, eq_ix3 i⟩
  have hn := Formula.result_near (rowQ q a s) (rows k a) (rows v a) (masks m) (fun j => w (ix4 a 0 j 0)) s d
  rw [fn_at, h]
  simp only [Ideal.cmp, decide_eq_true hn.1, decide_eq_true hn.2]
  rfl

end Cert.Post_near_exact

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Equation
public import proofs.«01_k».proof.Proof.PostValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs from every memory and leaves its arguments as they were and every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every constant the rule replaced is its name's exact number. -/
theorem preserves : Cert.preserves_Kernel_KernelIdeal :=
  ⟨IdealRules.named_const.statement Cert.KernelIdeal.κ "eps_sq" .f32 0x179ABE15#32 _ rfl,
    IdealRules.named_const.statement Cert.KernelIdeal.κ "c3" .f32 0xBBC35A8B#32 _ rfl,
    IdealRules.named_const.statement Cert.KernelIdeal.κ "c2" .f32 0x3CC1A480#32 _ rfl,
    IdealRules.named_const.statement Cert.KernelIdeal.κ "c1" .f32 0xBD8A46EF#32 _ rfl,
    IdealRules.named_const.statement Cert.KernelIdeal.κ "c0" .f32 0x3EFFFD2F#32 _ rfl⟩

/-- The kernel and the reference end with equal results. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv, hm, hw⟩ := hagree c
  exact (Cert.ReferenceIdeal.Value.val3_main_v117 _).symm.trans
    (Equation.output_eq m c (StableHlo.launchContents m' c) hq hk hv hm hw)

/-- The kernel's result is near the one with the exact arc cosine. -/
theorem near_exact : Cert.holds_KernelIdeal_near_exact := fun m ρ _ =>
  (θ_run Cert.KernelIdeal.defs _ _).mono
    (fun _ h c => ⟨(h c).2.1, (h c).2.2.1, (h c).2.2.2.1, (h c).2.2.2.2.1, (h c).2.2.2.2.2,
      (Cert.Post_near_exact.fn_eq _ _ _ _ _ _ fun a s d =>
        congrFun ((h c).1.trans (Cert.KernelIdeal.Array.final m c)) (ix3 a s d))⟩)
    (Cert.KernelIdeal.Value.run_blocks (F := Ideal) m ρ)

/-- The claims of the certificate. -/
theorem claim : Cert.Claim :=
  ⟨Cert.Kernel.Gen.facts, Cert.KernelIdeal.Gen.facts, Cert.ReferenceIdeal.Gen.facts, Cert.Post_near_exact.facts,
    fun m ρ _ => Cert.Kernel.Gen.frame m ρ, fun m ρ _ => Cert.KernelIdeal.Gen.frame m ρ, reference_frame, preserves, algebraic,
    near_exact⟩

end Cert.Proof

end
